-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x4096 : Shape := ⟨2, ![8192, 4096]⟩
abbrev S8192x512 : Shape := ⟨2, ![8192, 512]⟩
abbrev S6x1024x512 : Shape := ⟨3, ![6, 1024, 512]⟩
abbrev S2x1024x512 : Shape := ⟨3, ![2, 1024, 512]⟩
abbrev S8x1024x512 : Shape := ⟨3, ![8, 1024, 512]⟩
abbrev S6 : Shape := ⟨1, ![6]⟩
abbrev S2 : Shape := ⟨1, ![2]⟩
abbrev S8 : Shape := ⟨1, ![8]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x8192, .f32⟩
  | .hbm, ⟨1, _⟩ => ⟨S8192x4096, .f32⟩
  | .hbm, ⟨2, _⟩ => ⟨S8192x512, .f32⟩
  | .local _ .vmem, ⟨0, _⟩ => ⟨S1024x8192, .bf16⟩
  | .local _ .vmem, ⟨1, _⟩ => ⟨S6x1024x512, .f32⟩
  | .local _ .vmem, ⟨2, _⟩ => ⟨S2x1024x512, .f32⟩
  | .local _ .vmem, ⟨3, _⟩ => ⟨S2x1024x512, .bf16⟩
  | .local _ .vmem, ⟨4, _⟩ => ⟨S8x1024x512, .bf16⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_75 : BitVec 32) : Fin 2 → Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v105 : BitVec 32 := Scalar.addi v2 c0_i32_75
  let c8_i32_76 : BitVec 32 := 8#32
  let c0_i32_77 : BitVec 32 := 0#32
  let v106 : BitVec 1 := Scalar.cmpi .eq c8_i32_76 c0_i32_77
  let c1_i32_78 : BitVec 32 := 1#32
  let v107 : BitVec 32 := Scalar.select v106 c1_i32_78 c8_i32_76
  let v108 : BitVec 32 := Scalar.remsi v105 v107
  let c0_i32_80 : BitVec 32 := 0#32
  let v110 : BitVec 1 := Scalar.cmpi .slt v108 c0_i32_80
  let c0_i32_81 : BitVec 32 := 0#32
  let v111 : BitVec 1 := Scalar.cmpi .slt v107 c0_i32_81
  let v112 : BitVec 1 := Scalar.xori v110 v111
  let c0_i32_79 : BitVec 32 := 0#32
  let v109 : BitVec 1 := Scalar.cmpi .ne v108 c0_i32_79
  let v113 : BitVec 1 := Scalar.andi v112 v109
  let v114 : BitVec 32 := Scalar.addi v108 v107
  let v115 : BitVec 32 := Scalar.select v113 v114 v108
  let c512_i32_82 : BitVec 32 := 512#32
  let v116 : BitVec 32 := Scalar.muli v115 c512_i32_82
  ![0, v116.toNat]
def k0_off2 (d0 : Dev nD) (c0_i32_98 : BitVec 32) : Fin 2 → Nat :=
  let c1024_i32_110 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v132 : BitVec 32 := Scalar.addi v2 c0_i32_98
  let c8_i32_99 : BitVec 32 := 8#32
  let c0_i32_100 : BitVec 32 := 0#32
  let v133 : BitVec 1 := Scalar.cmpi .eq c8_i32_99 c0_i32_100
  let c1_i32_101 : BitVec 32 := 1#32
  let v134 : BitVec 32 := Scalar.select v133 c1_i32_101 c8_i32_99
  let v135 : BitVec 32 := Scalar.remsi v132 v134
  let c0_i32_103 : BitVec 32 := 0#32
  let v137 : BitVec 1 := Scalar.cmpi .slt v135 c0_i32_103
  let c0_i32_104 : BitVec 32 := 0#32
  let v138 : BitVec 1 := Scalar.cmpi .slt v134 c0_i32_104
  let v139 : BitVec 1 := Scalar.xori v137 v138
  let c0_i32_102 : BitVec 32 := 0#32
  let v136 : BitVec 1 := Scalar.cmpi .ne v135 c0_i32_102
  let v140 : BitVec 1 := Scalar.andi v139 v136
  let v141 : BitVec 32 := Scalar.addi v135 v134
  let v142 : BitVec 32 := Scalar.select v140 v141 v135
  let c512_i32_105 : BitVec 32 := 512#32
  let v143 : BitVec 32 := Scalar.muli v142 c512_i32_105
  ![1024, v143.toNat]
def k0_off3 (d0 : Dev nD) (c0_i32_157 : BitVec 32) : Fin 2 → Nat :=
  let c2048_i32_169 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.addi v2 c0_i32_157
  let c8_i32_158 : BitVec 32 := 8#32
  let c0_i32_159 : BitVec 32 := 0#32
  let v204 : BitVec 1 := Scalar.cmpi .eq c8_i32_158 c0_i32_159
  let c1_i32_160 : BitVec 32 := 1#32
  let v205 : BitVec 32 := Scalar.select v204 c1_i32_160 c8_i32_158
  let v206 : BitVec 32 := Scalar.remsi v203 v205
  let c0_i32_162 : BitVec 32 := 0#32
  let v208 : BitVec 1 := Scalar.cmpi .slt v206 c0_i32_162
  let c0_i32_163 : BitVec 32 := 0#32
  let v209 : BitVec 1 := Scalar.cmpi .slt v205 c0_i32_163
  let v210 : BitVec 1 := Scalar.xori v208 v209
  let c0_i32_161 : BitVec 32 := 0#32
  let v207 : BitVec 1 := Scalar.cmpi .ne v206 c0_i32_161
  let v211 : BitVec 1 := Scalar.andi v210 v207
  let v212 : BitVec 32 := Scalar.addi v206 v205
  let v213 : BitVec 32 := Scalar.select v211 v212 v206
  let c512_i32_164 : BitVec 32 := 512#32
  let v214 : BitVec 32 := Scalar.muli v213 c512_i32_164
  ![2048, v214.toNat]
def k0_off4 (d0 : Dev nD) (c0_i32_216 : BitVec 32) : Fin 2 → Nat :=
  let c3072_i32_228 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : BitVec 32 := Scalar.addi v2 c0_i32_216
  let c8_i32_217 : BitVec 32 := 8#32
  let c0_i32_218 : BitVec 32 := 0#32
  let v276 : BitVec 1 := Scalar.cmpi .eq c8_i32_217 c0_i32_218
  let c1_i32_219 : BitVec 32 := 1#32
  let v277 : BitVec 32 := Scalar.select v276 c1_i32_219 c8_i32_217
  let v278 : BitVec 32 := Scalar.remsi v275 v277
  let c0_i32_221 : BitVec 32 := 0#32
  let v280 : BitVec 1 := Scalar.cmpi .slt v278 c0_i32_221
  let c0_i32_222 : BitVec 32 := 0#32
  let v281 : BitVec 1 := Scalar.cmpi .slt v277 c0_i32_222
  let v282 : BitVec 1 := Scalar.xori v280 v281
  let c0_i32_220 : BitVec 32 := 0#32
  let v279 : BitVec 1 := Scalar.cmpi .ne v278 c0_i32_220
  let v283 : BitVec 1 := Scalar.andi v282 v279
  let v284 : BitVec 32 := Scalar.addi v278 v277
  let v285 : BitVec 32 := Scalar.select v283 v284 v278
  let c512_i32_223 : BitVec 32 := 512#32
  let v286 : BitVec 32 := Scalar.muli v285 c512_i32_223
  ![3072, v286.toNat]
def k0_off5 (d0 : Dev nD) (c0_i32_278 : BitVec 32) : Fin 2 → Nat :=
  let c4096_i32_290 : BitVec 32 := 4096#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v347 : BitVec 32 := Scalar.addi v2 c0_i32_278
  let c8_i32_279 : BitVec 32 := 8#32
  let c0_i32_280 : BitVec 32 := 0#32
  let v348 : BitVec 1 := Scalar.cmpi .eq c8_i32_279 c0_i32_280
  let c1_i32_281 : BitVec 32 := 1#32
  let v349 : BitVec 32 := Scalar.select v348 c1_i32_281 c8_i32_279
  let v350 : BitVec 32 := Scalar.remsi v347 v349
  let c0_i32_283 : BitVec 32 := 0#32
  let v352 : BitVec 1 := Scalar.cmpi .slt v350 c0_i32_283
  let c0_i32_284 : BitVec 32 := 0#32
  let v353 : BitVec 1 := Scalar.cmpi .slt v349 c0_i32_284
  let v354 : BitVec 1 := Scalar.xori v352 v353
  let c0_i32_282 : BitVec 32 := 0#32
  let v351 : BitVec 1 := Scalar.cmpi .ne v350 c0_i32_282
  let v355 : BitVec 1 := Scalar.andi v354 v351
  let v356 : BitVec 32 := Scalar.addi v350 v349
  let v357 : BitVec 32 := Scalar.select v355 v356 v350
  let c512_i32_285 : BitVec 32 := 512#32
  let v358 : BitVec 32 := Scalar.muli v357 c512_i32_285
  ![4096, v358.toNat]
def k0_off6 (d0 : Dev nD) (c0_i32_340 : BitVec 32) : Fin 2 → Nat :=
  let c5120_i32_352 : BitVec 32 := 5120#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.addi v2 c0_i32_340
  let c8_i32_341 : BitVec 32 := 8#32
  let c0_i32_342 : BitVec 32 := 0#32
  let v420 : BitVec 1 := Scalar.cmpi .eq c8_i32_341 c0_i32_342
  let c1_i32_343 : BitVec 32 := 1#32
  let v421 : BitVec 32 := Scalar.select v420 c1_i32_343 c8_i32_341
  let v422 : BitVec 32 := Scalar.remsi v419 v421
  let c0_i32_345 : BitVec 32 := 0#32
  let v424 : BitVec 1 := Scalar.cmpi .slt v422 c0_i32_345
  let c0_i32_346 : BitVec 32 := 0#32
  let v425 : BitVec 1 := Scalar.cmpi .slt v421 c0_i32_346
  let v426 : BitVec 1 := Scalar.xori v424 v425
  let c0_i32_344 : BitVec 32 := 0#32
  let v423 : BitVec 1 := Scalar.cmpi .ne v422 c0_i32_344
  let v427 : BitVec 1 := Scalar.andi v426 v423
  let v428 : BitVec 32 := Scalar.addi v422 v421
  let v429 : BitVec 32 := Scalar.select v427 v428 v422
  let c512_i32_347 : BitVec 32 := 512#32
  let v430 : BitVec 32 := Scalar.muli v429 c512_i32_347
  ![5120, v430.toNat]
def k0_off7 (d0 : Dev nD) (c0_i32_402 : BitVec 32) : Fin 2 → Nat :=
  let c6144_i32_414 : BitVec 32 := 6144#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v491 : BitVec 32 := Scalar.addi v2 c0_i32_402
  let c8_i32_403 : BitVec 32 := 8#32
  let c0_i32_404 : BitVec 32 := 0#32
  let v492 : BitVec 1 := Scalar.cmpi .eq c8_i32_403 c0_i32_404
  let c1_i32_405 : BitVec 32 := 1#32
  let v493 : BitVec 32 := Scalar.select v492 c1_i32_405 c8_i32_403
  let v494 : BitVec 32 := Scalar.remsi v491 v493
  let c0_i32_407 : BitVec 32 := 0#32
  let v496 : BitVec 1 := Scalar.cmpi .slt v494 c0_i32_407
  let c0_i32_408 : BitVec 32 := 0#32
  let v497 : BitVec 1 := Scalar.cmpi .slt v493 c0_i32_408
  let v498 : BitVec 1 := Scalar.xori v496 v497
  let c0_i32_406 : BitVec 32 := 0#32
  let v495 : BitVec 1 := Scalar.cmpi .ne v494 c0_i32_406
  let v499 : BitVec 1 := Scalar.andi v498 v495
  let v500 : BitVec 32 := Scalar.addi v494 v493
  let v501 : BitVec 32 := Scalar.select v499 v500 v494
  let c512_i32_409 : BitVec 32 := 512#32
  let v502 : BitVec 32 := Scalar.muli v501 c512_i32_409
  ![6144, v502.toNat]
def k0_off8 (d0 : Dev nD) (c0_i32_464 : BitVec 32) : Fin 2 → Nat :=
  let c7168_i32_476 : BitVec 32 := 7168#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v563 : BitVec 32 := Scalar.addi v2 c0_i32_464
  let c8_i32_465 : BitVec 32 := 8#32
  let c0_i32_466 : BitVec 32 := 0#32
  let v564 : BitVec 1 := Scalar.cmpi .eq c8_i32_465 c0_i32_466
  let c1_i32_467 : BitVec 32 := 1#32
  let v565 : BitVec 32 := Scalar.select v564 c1_i32_467 c8_i32_465
  let v566 : BitVec 32 := Scalar.remsi v563 v565
  let c0_i32_469 : BitVec 32 := 0#32
  let v568 : BitVec 1 := Scalar.cmpi .slt v566 c0_i32_469
  let c0_i32_470 : BitVec 32 := 0#32
  let v569 : BitVec 1 := Scalar.cmpi .slt v565 c0_i32_470
  let v570 : BitVec 1 := Scalar.xori v568 v569
  let c0_i32_468 : BitVec 32 := 0#32
  let v567 : BitVec 1 := Scalar.cmpi .ne v566 c0_i32_468
  let v571 : BitVec 1 := Scalar.andi v570 v567
  let v572 : BitVec 32 := Scalar.addi v566 v565
  let v573 : BitVec 32 := Scalar.select v571 v572 v566
  let c512_i32_471 : BitVec 32 := 512#32
  let v574 : BitVec 32 := Scalar.muli v573 c512_i32_471
  ![7168, v574.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_637 : BitVec 32 := 1024#32
  let v785 : BitVec 32 := Scalar.muli v2 c1024_i32_637
  let c0_i32_643 : BitVec 32 := 0#32
  ![v785.toNat, 0]
def k0_dev8 (d0 : Dev nD) : Nat :=
  let c0_i32_921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_909 : BitVec 32 := 1#32
  let v1130 : BitVec 32 := Scalar.addi v2 c1_i32_909
  let c8_i32_910 : BitVec 32 := 8#32
  let c0_i32_911 : BitVec 32 := 0#32
  let v1131 : BitVec 1 := Scalar.cmpi .eq c8_i32_910 c0_i32_911
  let c1_i32_912 : BitVec 32 := 1#32
  let v1132 : BitVec 32 := Scalar.select v1131 c1_i32_912 c8_i32_910
  let v1133 : BitVec 32 := Scalar.remsi v1130 v1132
  let c0_i32_914 : BitVec 32 := 0#32
  let v1135 : BitVec 1 := Scalar.cmpi .slt v1133 c0_i32_914
  let c0_i32_915 : BitVec 32 := 0#32
  let v1136 : BitVec 1 := Scalar.cmpi .slt v1132 c0_i32_915
  let v1137 : BitVec 1 := Scalar.xori v1135 v1136
  let c0_i32_913 : BitVec 32 := 0#32
  let v1134 : BitVec 1 := Scalar.cmpi .ne v1133 c0_i32_913
  let v1138 : BitVec 1 := Scalar.andi v1137 v1134
  let v1139 : BitVec 32 := Scalar.addi v1133 v1132
  let v1140 : BitVec 32 := Scalar.select v1138 v1139 v1133
  let c1_i32_920 : BitVec 32 := 1#32
  let v1141 : BitVec 32 := Scalar.muli v1140 c1_i32_920
  let v1142 : BitVec 32 := Scalar.addi c0_i32_921 v1141
  v1142.toNat
def k0_dev9 (d0 : Dev nD) : Nat :=
  let c0_i32_1201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1189 : BitVec 32 := 2#32
  let v1487 : BitVec 32 := Scalar.addi v2 c2_i32_1189
  let c8_i32_1190 : BitVec 32 := 8#32
  let c0_i32_1191 : BitVec 32 := 0#32
  let v1488 : BitVec 1 := Scalar.cmpi .eq c8_i32_1190 c0_i32_1191
  let c1_i32_1192 : BitVec 32 := 1#32
  let v1489 : BitVec 32 := Scalar.select v1488 c1_i32_1192 c8_i32_1190
  let v1490 : BitVec 32 := Scalar.remsi v1487 v1489
  let c0_i32_1194 : BitVec 32 := 0#32
  let v1492 : BitVec 1 := Scalar.cmpi .slt v1490 c0_i32_1194
  let c0_i32_1195 : BitVec 32 := 0#32
  let v1493 : BitVec 1 := Scalar.cmpi .slt v1489 c0_i32_1195
  let v1494 : BitVec 1 := Scalar.xori v1492 v1493
  let c0_i32_1193 : BitVec 32 := 0#32
  let v1491 : BitVec 1 := Scalar.cmpi .ne v1490 c0_i32_1193
  let v1495 : BitVec 1 := Scalar.andi v1494 v1491
  let v1496 : BitVec 32 := Scalar.addi v1490 v1489
  let v1497 : BitVec 32 := Scalar.select v1495 v1496 v1490
  let c1_i32_1200 : BitVec 32 := 1#32
  let v1498 : BitVec 32 := Scalar.muli v1497 c1_i32_1200
  let v1499 : BitVec 32 := Scalar.addi c0_i32_1201 v1498
  v1499.toNat
def k0_off10 (d0 : Dev nD) (c1_i32_1206 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1508 : BitVec 32 := Scalar.subi v2 c1_i32_1206
  let c8_i32_1207 : BitVec 32 := 8#32
  let c0_i32_1208 : BitVec 32 := 0#32
  let v1509 : BitVec 1 := Scalar.cmpi .eq c8_i32_1207 c0_i32_1208
  let c1_i32_1209 : BitVec 32 := 1#32
  let v1510 : BitVec 32 := Scalar.select v1509 c1_i32_1209 c8_i32_1207
  let v1511 : BitVec 32 := Scalar.remsi v1508 v1510
  let c0_i32_1211 : BitVec 32 := 0#32
  let v1513 : BitVec 1 := Scalar.cmpi .slt v1511 c0_i32_1211
  let c0_i32_1212 : BitVec 32 := 0#32
  let v1514 : BitVec 1 := Scalar.cmpi .slt v1510 c0_i32_1212
  let v1515 : BitVec 1 := Scalar.xori v1513 v1514
  let c0_i32_1210 : BitVec 32 := 0#32
  let v1512 : BitVec 1 := Scalar.cmpi .ne v1511 c0_i32_1210
  let v1516 : BitVec 1 := Scalar.andi v1515 v1512
  let v1517 : BitVec 32 := Scalar.addi v1511 v1510
  let v1518 : BitVec 32 := Scalar.select v1516 v1517 v1511
  let c1024_i32_1230 : BitVec 32 := 1024#32
  let v1538 : BitVec 32 := Scalar.muli v1518 c1024_i32_1230
  let c0_i32_1239 : BitVec 32 := 0#32
  ![v1538.toNat, 0]
def k0_dev10 (d0 : Dev nD) : Nat :=
  let c0_i32_1533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1521 : BitVec 32 := 3#32
  let v1903 : BitVec 32 := Scalar.addi v2 c3_i32_1521
  let c8_i32_1522 : BitVec 32 := 8#32
  let c0_i32_1523 : BitVec 32 := 0#32
  let v1904 : BitVec 1 := Scalar.cmpi .eq c8_i32_1522 c0_i32_1523
  let c1_i32_1524 : BitVec 32 := 1#32
  let v1905 : BitVec 32 := Scalar.select v1904 c1_i32_1524 c8_i32_1522
  let v1906 : BitVec 32 := Scalar.remsi v1903 v1905
  let c0_i32_1526 : BitVec 32 := 0#32
  let v1908 : BitVec 1 := Scalar.cmpi .slt v1906 c0_i32_1526
  let c0_i32_1527 : BitVec 32 := 0#32
  let v1909 : BitVec 1 := Scalar.cmpi .slt v1905 c0_i32_1527
  let v1910 : BitVec 1 := Scalar.xori v1908 v1909
  let c0_i32_1525 : BitVec 32 := 0#32
  let v1907 : BitVec 1 := Scalar.cmpi .ne v1906 c0_i32_1525
  let v1911 : BitVec 1 := Scalar.andi v1910 v1907
  let v1912 : BitVec 32 := Scalar.addi v1906 v1905
  let v1913 : BitVec 32 := Scalar.select v1911 v1912 v1906
  let c1_i32_1532 : BitVec 32 := 1#32
  let v1914 : BitVec 32 := Scalar.muli v1913 c1_i32_1532
  let v1915 : BitVec 32 := Scalar.addi c0_i32_1533 v1914
  v1915.toNat
def k0_dev11 (d0 : Dev nD) : Nat :=
  let c0_i32_1871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1859 : BitVec 32 := 4#32
  let v2324 : BitVec 32 := Scalar.addi v2 c4_i32_1859
  let c8_i32_1860 : BitVec 32 := 8#32
  let c0_i32_1861 : BitVec 32 := 0#32
  let v2325 : BitVec 1 := Scalar.cmpi .eq c8_i32_1860 c0_i32_1861
  let c1_i32_1862 : BitVec 32 := 1#32
  let v2326 : BitVec 32 := Scalar.select v2325 c1_i32_1862 c8_i32_1860
  let v2327 : BitVec 32 := Scalar.remsi v2324 v2326
  let c0_i32_1864 : BitVec 32 := 0#32
  let v2329 : BitVec 1 := Scalar.cmpi .slt v2327 c0_i32_1864
  let c0_i32_1865 : BitVec 32 := 0#32
  let v2330 : BitVec 1 := Scalar.cmpi .slt v2326 c0_i32_1865
  let v2331 : BitVec 1 := Scalar.xori v2329 v2330
  let c0_i32_1863 : BitVec 32 := 0#32
  let v2328 : BitVec 1 := Scalar.cmpi .ne v2327 c0_i32_1863
  let v2332 : BitVec 1 := Scalar.andi v2331 v2328
  let v2333 : BitVec 32 := Scalar.addi v2327 v2326
  let v2334 : BitVec 32 := Scalar.select v2332 v2333 v2327
  let c1_i32_1870 : BitVec 32 := 1#32
  let v2335 : BitVec 32 := Scalar.muli v2334 c1_i32_1870
  let v2336 : BitVec 32 := Scalar.addi c0_i32_1871 v2335
  v2336.toNat
def k0_dev12 (d0 : Dev nD) : Nat :=
  let c0_i32_2209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2197 : BitVec 32 := 5#32
  let v2745 : BitVec 32 := Scalar.addi v2 c5_i32_2197
  let c8_i32_2198 : BitVec 32 := 8#32
  let c0_i32_2199 : BitVec 32 := 0#32
  let v2746 : BitVec 1 := Scalar.cmpi .eq c8_i32_2198 c0_i32_2199
  let c1_i32_2200 : BitVec 32 := 1#32
  let v2747 : BitVec 32 := Scalar.select v2746 c1_i32_2200 c8_i32_2198
  let v2748 : BitVec 32 := Scalar.remsi v2745 v2747
  let c0_i32_2202 : BitVec 32 := 0#32
  let v2750 : BitVec 1 := Scalar.cmpi .slt v2748 c0_i32_2202
  let c0_i32_2203 : BitVec 32 := 0#32
  let v2751 : BitVec 1 := Scalar.cmpi .slt v2747 c0_i32_2203
  let v2752 : BitVec 1 := Scalar.xori v2750 v2751
  let c0_i32_2201 : BitVec 32 := 0#32
  let v2749 : BitVec 1 := Scalar.cmpi .ne v2748 c0_i32_2201
  let v2753 : BitVec 1 := Scalar.andi v2752 v2749
  let v2754 : BitVec 32 := Scalar.addi v2748 v2747
  let v2755 : BitVec 32 := Scalar.select v2753 v2754 v2748
  let c1_i32_2208 : BitVec 32 := 1#32
  let v2756 : BitVec 32 := Scalar.muli v2755 c1_i32_2208
  let v2757 : BitVec 32 := Scalar.addi c0_i32_2209 v2756
  v2757.toNat
def k0_dev13 (d0 : Dev nD) : Nat :=
  let c0_i32_2547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2535 : BitVec 32 := 6#32
  let v3166 : BitVec 32 := Scalar.addi v2 c6_i32_2535
  let c8_i32_2536 : BitVec 32 := 8#32
  let c0_i32_2537 : BitVec 32 := 0#32
  let v3167 : BitVec 1 := Scalar.cmpi .eq c8_i32_2536 c0_i32_2537
  let c1_i32_2538 : BitVec 32 := 1#32
  let v3168 : BitVec 32 := Scalar.select v3167 c1_i32_2538 c8_i32_2536
  let v3169 : BitVec 32 := Scalar.remsi v3166 v3168
  let c0_i32_2540 : BitVec 32 := 0#32
  let v3171 : BitVec 1 := Scalar.cmpi .slt v3169 c0_i32_2540
  let c0_i32_2541 : BitVec 32 := 0#32
  let v3172 : BitVec 1 := Scalar.cmpi .slt v3168 c0_i32_2541
  let v3173 : BitVec 1 := Scalar.xori v3171 v3172
  let c0_i32_2539 : BitVec 32 := 0#32
  let v3170 : BitVec 1 := Scalar.cmpi .ne v3169 c0_i32_2539
  let v3174 : BitVec 1 := Scalar.andi v3173 v3170
  let v3175 : BitVec 32 := Scalar.addi v3169 v3168
  let v3176 : BitVec 32 := Scalar.select v3174 v3175 v3169
  let c1_i32_2546 : BitVec 32 := 1#32
  let v3177 : BitVec 32 := Scalar.muli v3176 c1_i32_2546
  let v3178 : BitVec 32 := Scalar.addi c0_i32_2547 v3177
  v3178.toNat
def k0_dev14 (d0 : Dev nD) : Nat :=
  let c0_i32_2807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2795 : BitVec 32 := 7#32
  let v3485 : BitVec 32 := Scalar.addi v2 c7_i32_2795
  let c8_i32_2796 : BitVec 32 := 8#32
  let c0_i32_2797 : BitVec 32 := 0#32
  let v3486 : BitVec 1 := Scalar.cmpi .eq c8_i32_2796 c0_i32_2797
  let c1_i32_2798 : BitVec 32 := 1#32
  let v3487 : BitVec 32 := Scalar.select v3486 c1_i32_2798 c8_i32_2796
  let v3488 : BitVec 32 := Scalar.remsi v3485 v3487
  let c0_i32_2800 : BitVec 32 := 0#32
  let v3490 : BitVec 1 := Scalar.cmpi .slt v3488 c0_i32_2800
  let c0_i32_2801 : BitVec 32 := 0#32
  let v3491 : BitVec 1 := Scalar.cmpi .slt v3487 c0_i32_2801
  let v3492 : BitVec 1 := Scalar.xori v3490 v3491
  let c0_i32_2799 : BitVec 32 := 0#32
  let v3489 : BitVec 1 := Scalar.cmpi .ne v3488 c0_i32_2799
  let v3493 : BitVec 1 := Scalar.andi v3492 v3489
  let v3494 : BitVec 32 := Scalar.addi v3488 v3487
  let v3495 : BitVec 32 := Scalar.select v3493 v3494 v3488
  let c1_i32_2806 : BitVec 32 := 1#32
  let v3496 : BitVec 32 := Scalar.muli v3495 c1_i32_2806
  let v3497 : BitVec 32 := Scalar.addi c0_i32_2807 v3496
  v3497.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
# The kernel's program, written once at symbolic indices

The printed body is a straight line of some four hundred effects. Here it is written again as the
loops it was unrolled from: a task `t` moves one `1024 × 512` block of an input into staging slot
`t % 6`; the first phase stores sixteen blocks of `x` and multiplies by the device's own columns of
`w`; each later phase `j` multiplies by the columns of the device `j` places on, sends it the result
and stores the block that arrived from `j - 1` places back. `body_eq`: the printed body is this program.
-/
module

public import proofs.«01_k».proof.Proof.Gen.KernelIdeal.Frame
public import proofs.«01_k».proof.Proof.Gen.KernelIdeal.Skeleton
public import Idealize.ShloMosaic.Lib.Tactic

@[expose] public section

noncomputable section

namespace Cert.KernelProof

open Cert.KernelIdeal Cert.KernelIdeal.Gen
open Idealize.ShloMosaic Idealize.ShloMosaic.TcCoe
open Idealize.SL Idealize.SL.Sem

variable {F : FTy → Type} [FloatOps F]

/-! ## The buffers, whole -/

abbrev xW : Memref sig .tc .hbm S1024x8192 .f32 := Memref.whole main_arg0
abbrev wW : Memref sig .tc .hbm S8192x4096 .f32 := Memref.whole main_arg1
abbrev oW : Memref sig .tc .hbm S8192x512 .f32 := Memref.whole main_v1
abbrev xbW : Memref sig .tc .vmem S1024x8192 .bf16 := Memref.whole cc0_scratch0
abbrev stW : Memref sig .tc .vmem S6x1024x512 .f32 := Memref.whole cc0_scratch1
abbrev osW : Memref sig .tc .vmem S2x1024x512 .f32 := Memref.whole cc0_scratch2
abbrev sbW : Memref sig .tc .vmem S2x1024x512 .bf16 := Memref.whole cc0_scratch3
abbrev rbW : Memref sig .tc .vmem S8x1024x512 .bf16 := Memref.whole cc0_scratch4

/-! ## Slots and blocks -/

theorem inb_st (t : ℕ) : ∀ a, (![t % 6, 0, 0] : Fin 3 → ℕ) a + S1x1024x512.size a ≤ S6x1024x512.size a := by
  have := Nat.mod_lt t (show 0 < 6 by decide)
  intro a; fin_cases a <;> simp [S1x1024x512, S6x1024x512] <;> omega
theorem inb_two (b : ℕ) : ∀ a, (![b % 2, 0, 0] : Fin 3 → ℕ) a + S1x1024x512.size a ≤ S2x1024x512.size a := by
  have := Nat.mod_lt b (show 0 < 2 by decide)
  intro a; fin_cases a <;> simp [S1x1024x512, S2x1024x512] <;> omega
theorem inb_rb (j : ℕ) : ∀ a, (![j % 8, 0, 0] : Fin 3 → ℕ) a + S1x1024x512.size a ≤ S8x1024x512.size a := by
  have := Nat.mod_lt j (show 0 < 8 by decide)
  intro a; fin_cases a <;> simp [S1x1024x512, S8x1024x512] <;> omega
theorem inb_x (k : ℕ) : ∀ a, (![0, 512 * (k % 16)] : Fin 2 → ℕ) a + S1024x512.size a ≤ S1024x8192.size a := by
  have := Nat.mod_lt k (show 0 < 16 by decide)
  intro a; fin_cases a <;> simp [S1024x512, S1024x8192] <;> omega
theorem inb_xc (c : ℕ) : ∀ a, (![0, 1024 * (c % 8)] : Fin 2 → ℕ) a + S1024x1024.size a ≤ S1024x8192.size a := by
  have := Nat.mod_lt c (show 0 < 8 by decide)
  intro a; fin_cases a <;> simp [S1024x1024, S1024x8192] <;> omega
theorem inb_six (t : ℕ) : ∀ a, (![t % 6] : Fin 1 → ℕ) a + S1.size a ≤ S6.size a := by
  have := Nat.mod_lt t (show 0 < 6 by decide)
  intro a; fin_cases a; simp [S1, S6]; omega
theorem inb_duo (t : ℕ) : ∀ a, (![t % 2] : Fin 1 → ℕ) a + S1.size a ≤ S2.size a := by
  have := Nat.mod_lt t (show 0 < 2 by decide)
  intro a; fin_cases a; simp [S1, S2]; omega
theorem inb_oct (t : ℕ) : ∀ a, (![t % 8] : Fin 1 → ℕ) a + S1.size a ≤ S8.size a := by
  have := Nat.mod_lt t (show 0 < 8 by decide)
  intro a; fin_cases a; simp [S1, S8]; omega

/-- Staging slot of task `t`; output staging and send slot of block `b`; landing slot `j`. -/
abbrev rSt (t : ℕ) : Rect S6x1024x512 := Rect.unit (s := S6x1024x512) ![t % 6, 0, 0] S1x1024x512.size (inb_st t)
abbrev rTwo (b : ℕ) : Rect S2x1024x512 := Rect.unit (s := S2x1024x512) ![b % 2, 0, 0] S1x1024x512.size (inb_two b)
abbrev rRb (j : ℕ) : Rect S8x1024x512 := Rect.unit (s := S8x1024x512) ![j % 8, 0, 0] S1x1024x512.size (inb_rb j)
/-- Columns `512 k …` of `x`, and columns `1024 c …` of its `bf16` copy. -/
abbrev rX (k : ℕ) : Rect S1024x8192 := Rect.unit (s := S1024x8192) ![0, 512 * (k % 16)] S1024x512.size (inb_x k)
abbrev rXc (c : ℕ) : Rect S1024x8192 := Rect.unit (s := S1024x8192) ![0, 1024 * (c % 8)] S1024x1024.size (inb_xc c)

abbrev stM (t : ℕ) : Memref sig .tc .vmem S1024x512 .f32 := (stW.slice (rSt t) (fun _ => rfl)).squeeze S1024x512 squeezes_S1x1024x512_S1024x512
abbrev osM (b : ℕ) : Memref sig .tc .vmem S1024x512 .f32 := (osW.slice (rTwo b) (fun _ => rfl)).squeeze S1024x512 squeezes_S1x1024x512_S1024x512
abbrev sbM (b : ℕ) : Memref sig .tc .vmem S1024x512 .bf16 := (sbW.slice (rTwo b) (fun _ => rfl)).squeeze S1024x512 squeezes_S1x1024x512_S1024x512
abbrev rbM (j : ℕ) : Memref sig .tc .vmem S1024x512 .bf16 := (rbW.slice (rRb j) (fun _ => rfl)).squeeze S1024x512 squeezes_S1x1024x512_S1024x512
abbrev xBlk (k : ℕ) : Memref sig .tc .hbm S1024x512 .f32 := xW.slice (rX k) (fun _ => rfl)

/-- Where the block of `w` of rows `1024 c …` and of the columns of the device `j` places on starts, as the kernel computes it. -/
def wOff (d : Dev nD) (j : ℕ) : ℕ → Fin 2 → ℕ
  | 0 => k0_off1 d (BitVec.ofNat 32 (j % 8))
  | 1 => k0_off2 d (BitVec.ofNat 32 (j % 8))
  | 2 => k0_off3 d (BitVec.ofNat 32 (j % 8))
  | 3 => k0_off4 d (BitVec.ofNat 32 (j % 8))
  | 4 => k0_off5 d (BitVec.ofNat 32 (j % 8))
  | 5 => k0_off6 d (BitVec.ofNat 32 (j % 8))
  | 6 => k0_off7 d (BitVec.ofNat 32 (j % 8))
  | _ => k0_off8 d (BitVec.ofNat 32 (j % 8))

theorem inb_w (d : Dev nD) (j c : ℕ) : ∀ a, (wOff d j c) a + S1024x512.size a ≤ S8192x4096.size a :=
  match c with
  | 0 => k0_off1_inb d ⟨j % 8, Nat.mod_lt _ (by decide)⟩
  | 1 => k0_off2_inb d ⟨j % 8, Nat.mod_lt _ (by decide)⟩
  | 2 => k0_off3_inb d ⟨j % 8, Nat.mod_lt _ (by decide)⟩
  | 3 => k0_off4_inb d ⟨j % 8, Nat.mod_lt _ (by decide)⟩
  | 4 => k0_off5_inb d ⟨j % 8, Nat.mod_lt _ (by decide)⟩
  | 5 => k0_off6_inb d ⟨j % 8, Nat.mod_lt _ (by decide)⟩
  | 6 => k0_off7_inb d ⟨j % 8, Nat.mod_lt _ (by decide)⟩
  | _ + 7 => k0_off8_inb d ⟨j % 8, Nat.mod_lt _ (by decide)⟩

abbrev wBlk (d : Dev nD) (j c : ℕ) : Memref sig .tc .hbm S1024x512 .f32 :=
  wW.slice (Rect.unit (s := S8192x4096) (wOff d j c) S1024x512.size (inb_w d j c)) (fun _ => rfl)

/-- The rows of the result that block `b` (the one computed `b` places back) fills, as the kernel computes them. -/
def oOff (d : Dev nD) : ℕ → Fin 2 → ℕ
  | 0 => k0_off9 d
  | b + 1 => k0_off10 d (BitVec.ofNat 32 (1 + b % 7))

theorem inb_o (d : Dev nD) (b : ℕ) : ∀ a, (oOff d b) a + S1024x512.size a ≤ S8192x512.size a :=
  match b with
  | 0 => k0_off9_inb d
  | b + 1 => k0_off10_inb d ⟨b % 7, Nat.mod_lt _ (by decide)⟩

abbrev oBlk (d : Dev nD) (b : ℕ) : Memref sig .tc .hbm S1024x512 .f32 :=
  oW.slice (Rect.unit (s := S8192x512) (oOff d b) S1024x512.size (inb_o d b)) (fun _ => rfl)
/-- The rows a wait for a block's copy to the result is written at. -/
abbrev oTop : Memref sig .tc .hbm S1024x512 .f32 :=
  oW.slice (Rect.unit (s := S8192x512) ![0, 0] S1024x512.size inb_S8192x512_S1024x512_0_0) (fun _ => rfl)

/-! ## Semaphores -/

abbrev barS : Sem sig := (SemArray.scalar (sig.barrier 0 rfl) : Sems sig S_).sem
abbrev stSem (t : ℕ) : DmaSem sig := ((cc0_scratch5.slice (Rect.unit (s := S6) ![t % 6] S1.size (inb_six t)) : DmaSems sig S1).squeeze S_ squeezes_S1_S_).sem
abbrev outSem (b : ℕ) : DmaSem sig := ((cc0_scratch6.slice (Rect.unit (s := S2) ![b % 2] S1.size (inb_duo b)) : DmaSems sig S1).squeeze S_ squeezes_S1_S_).sem
abbrev sendSem (j : ℕ) : DmaSem sig := ((cc0_scratch7.slice (Rect.unit (s := S8) ![j % 8] S1.size (inb_oct j)) : DmaSems sig S1).squeeze S_ squeezes_S1_S_).sem
abbrev recvSem (j : ℕ) : DmaSem sig := ((cc0_scratch8.slice (Rect.unit (s := S8) ![j % 8] S1.size (inb_oct j)) : DmaSems sig S1).squeeze S_ squeezes_S1_S_).sem

/-! ## Peers -/

/-- The device `k` places on, as the entry handshake's signal `k` computes it; -/
def sigDev (d : Dev nD) : ℕ → Dev nD
  | 1 => ⟨k0_dev1 d, k0_dev1_lt d⟩
  | 2 => ⟨k0_dev2 d, k0_dev2_lt d⟩
  | 3 => ⟨k0_dev3 d, k0_dev3_lt d⟩
  | 4 => ⟨k0_dev4 d, k0_dev4_lt d⟩
  | 5 => ⟨k0_dev5 d, k0_dev5_lt d⟩
  | 6 => ⟨k0_dev6 d, k0_dev6_lt d⟩
  | _ => ⟨k0_dev7 d, k0_dev7_lt d⟩

/-- and as the remote copy `j` computes it. -/
def sendDev (d : Dev nD) : ℕ → Dev nD
  | 1 => ⟨k0_dev8 d, k0_dev8_lt d⟩
  | 2 => ⟨k0_dev9 d, k0_dev9_lt d⟩
  | 3 => ⟨k0_dev10 d, k0_dev10_lt d⟩
  | 4 => ⟨k0_dev11 d, k0_dev11_lt d⟩
  | 5 => ⟨k0_dev12 d, k0_dev12_lt d⟩
  | 6 => ⟨k0_dev13 d, k0_dev13_lt d⟩
  | _ => ⟨k0_dev14 d, k0_dev14_lt d⟩

/-! ## Layout evidence at symbolic indices -/

theorem words_two (b : ℕ) : (rTwo b).WholeWords (EltTy.packing .bf16) := by
  have key : ∀ n (hn : n < 2) (hi : ∀ a, (![n, 0, 0] : Fin 3 → ℕ) a + S1x1024x512.size a ≤ S2x1024x512.size a),
      (Rect.unit (s := S2x1024x512) ![n, 0, 0] S1x1024x512.size hi).WholeWords (EltTy.packing .bf16) := by
    intro n hn hi
    obtain rfl | rfl : n = 0 ∨ n = 1 := by omega
    all_goals (revert hi; decide)
  exact key _ (Nat.mod_lt b (show 0 < 2 by decide)) _
theorem packed_two (b : ℕ) : (rTwo b).PackedRows (EltTy.packing .bf16) := by
  have key : ∀ n (hn : n < 2) (hi : ∀ a, (![n, 0, 0] : Fin 3 → ℕ) a + S1x1024x512.size a ≤ S2x1024x512.size a),
      (Rect.unit (s := S2x1024x512) ![n, 0, 0] S1x1024x512.size hi).PackedRows (EltTy.packing .bf16) := by
    intro n hn hi
    obtain rfl | rfl : n = 0 ∨ n = 1 := by omega
    all_goals (revert hi; decide)
  exact key _ (Nat.mod_lt b (show 0 < 2 by decide)) _
theorem words_rb (j : ℕ) : (rRb j).WholeWords (EltTy.packing .bf16) := by
  have key : ∀ n (hn : n < 8) (hi : ∀ a, (![n, 0, 0] : Fin 3 → ℕ) a + S1x1024x512.size a ≤ S8x1024x512.size a),
      (Rect.unit (s := S8x1024x512) ![n, 0, 0] S1x1024x512.size hi).WholeWords (EltTy.packing .bf16) := by
    intro n hn hi
    obtain rfl | rfl | rfl | rfl | rfl | rfl | rfl | rfl : n = 0 ∨ n = 1 ∨ n = 2 ∨ n = 3 ∨ n = 4 ∨ n = 5 ∨ n = 6 ∨ n = 7 := by omega
    all_goals (revert hi; decide)
  exact key _ (Nat.mod_lt j (show 0 < 8 by decide)) _
theorem packed_x (k : ℕ) : (rX k).PackedRows (EltTy.packing .bf16) := by
  have key : ∀ n (hn : n < 16) (hi : ∀ a, (![0, 512 * n] : Fin 2 → ℕ) a + S1024x512.size a ≤ S1024x8192.size a),
      (Rect.unit (s := S1024x8192) ![0, 512 * n] S1024x512.size hi).PackedRows (EltTy.packing .bf16) := by
    intro n hn hi
    obtain rfl | rfl | rfl | rfl | rfl | rfl | rfl | rfl | rfl | rfl | rfl | rfl | rfl | rfl | rfl | rfl : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
    all_goals (revert hi; decide)
  exact key _ (Nat.mod_lt k (show 0 < 16 by decide)) _

theorem wordExact_sb (b : ℕ) : (sbM b).view.WordExact :=
  (Memref.IsWhole.wordExact_slice (m := sbW) (Memref.isWhole_whole _) rfl (rTwo b) (words_two b)).reshape _ _
theorem wordExact_rb (j : ℕ) : (rbM j).view.WordExact :=
  (Memref.IsWhole.wordExact_slice (m := rbW) (Memref.isWhole_whole _) rfl (rRb j) (words_rb j)).reshape _ _
theorem stores_sb (b : ℕ) : (sbW.access (rTwo b)).Stores Finset.univ :=
  View.stores_vmem h_S1x1024x512 (Memref.IsWhole.storeExact_slice (m := sbW) (Memref.isWhole_whole _) rfl (rTwo b) (packed_two b)) (fun _ => rfl)
theorem stores_xb (k : ℕ) : (xbW.access (rX k)).Stores Finset.univ :=
  View.stores_vmem h_S1024x512 (Memref.IsWhole.storeExact_slice (m := xbW) (Memref.isWhole_whole _) rfl (rX k) (packed_x k)) (fun _ => rfl)

/-! ## The program -/

/-- The block of the inputs that task `t` fetches: the first phase alternates two blocks of `x` with one
    of the own columns of `w`; phase `j ≥ 1` fetches the eight blocks of the columns `j` places on. -/
def srcM (d : Dev nD) (t : ℕ) : Memref sig .tc .hbm S1024x512 .f32 :=
  if t < 24 then (if t % 3 < 2 then xBlk (2 * (t / 3) + t % 3) else wBlk d 0 (t / 3))
  else wBlk d ((t - 24) / 8 + 1) ((t - 24) % 8)

abbrev KProg (F : FTy → Type) [FloatOps F] := Prog (TpuEff nD τ sig (Elt F) Λ₀ .tc)

/-- Start task `t`'s fetch into its staging slot, and wait for it. -/
def startT (d : Dev nD) (t : ℕ) : KProg F PUnit :=
  Prog.lift (.enqueueDma (srcM d t) (.here (stM t)) (.dma (stSem t)) (View.wordExact_bits rfl) ((View.wordExact_bits rfl).reshape _ _) ⟨Or.inl rfl, trivial⟩)
def waitT (d : Dev nD) (t : ℕ) : KProg F PUnit :=
  Prog.lift (.waitDma2 (stSem t) (srcM d t) (stM t) (View.wordExact_bits rfl) ((View.wordExact_bits rfl).reshape _ _))
/-- Start the fetch six tasks ahead, if there is one. -/
def nextT (d : Dev nD) (t : ℕ) : KProg F PUnit := if t + 6 < 80 then startT d (t + 6) else pure ⟨⟩

/-- Round block `k` of `x` into its columns of the `bf16` copy. -/
def xTask (d : Dev nD) (k t : ℕ) : KProg F PUnit := do
  waitT d t
  let v ← Prog.lift (.load stW (rSt t).toLoadRect (View.loadsAt_vmem h_S1x1024x512))
  let _ ← Prog.lift (.load xbW (rX k).toLoadRect (View.loadsAt_vmem h_S1024x512))
  Prog.lift (.store xbW (rX k) (k0_pay1 v) Finset.univ (stores_xb k) (.inl rfl))
  nextT d t

/-- One step of the product: the first chunk starts the sum, the others add to it. -/
def accStep (c : ℕ) (acc : FVec F S1024x512 .f32) (v : Vec F S1x1024x512 .f32) (x : Vec F S1024x1024 .bf16) : FVec F S1024x512 .f32 :=
  match c with
  | 0 => k0_pay3 v x
  | _ + 1 => k0_pay6 acc v x

def wTask (d : Dev nD) (c t : ℕ) (acc : FVec F S1024x512 .f32) : KProg F (FVec F S1024x512 .f32) := do
  waitT d t
  let v ← Prog.lift (.load stW (rSt t).toLoadRect (View.loadsAt_vmem h_S1x1024x512))
  let x ← Prog.lift (.load xbW (rXc c).toLoadRect (View.loadsAt_vmem h_S1024x1024))
  nextT d t
  pure (accStep c acc v x)

/-- What a sum is before its first chunk; nothing reads it. -/
def acc0 : FVec F S1024x512 .f32 := constant S1024x512 .f32 0x00000000#32

/-- `n` chunks of the first phase, from chunk `c` on; -/
def phase0 (d : Dev nD) : ℕ → ℕ → FVec F S1024x512 .f32 → KProg F (FVec F S1024x512 .f32)
  | 0, _, acc => pure acc
  | n + 1, c, acc => do
    xTask d (2 * c) (3 * c)
    xTask d (2 * c + 1) (3 * c + 1)
    let a ← wTask d c (3 * c + 2) acc
    phase0 d n (c + 1) a

/-- and of phase `j`. -/
def phase (d : Dev nD) (j : ℕ) : ℕ → ℕ → FVec F S1024x512 .f32 → KProg F (FVec F S1024x512 .f32)
  | 0, _, acc => pure acc
  | n + 1, c, acc => do
    let a ← wTask d c (24 + 8 * (j - 1) + c) acc
    phase d j n (c + 1) a

def waitO (b : ℕ) : KProg F PUnit :=
  Prog.lift (.waitDma2 (outSem b) (osM b) oTop ((View.wordExact_bits rfl).reshape _ _) (View.wordExact_bits rfl))

/-- The wait before block `b`, if its slot is taken. -/
def preO (b : ℕ) : KProg F PUnit := if 2 ≤ b then waitO b else pure ⟨⟩

/-- Store block `b` into the result through output staging slot `b % 2`. -/
def emit (d : Dev nD) (b : ℕ) (val : FVec F S1x1024x512 .f32) : KProg F PUnit := do
  preO b
  let _ ← Prog.lift (.load osW (rTwo b).toLoadRect (View.loadsAt_vmem h_S1x1024x512))
  Prog.lift (.store osW (rTwo b) val Finset.univ (View.stores_vmem_bits_univ h_S1x1024x512 rfl) (.inl rfl))
  Prog.lift (.enqueueDma (osM b) (.here (oBlk d b)) (.dma (outSem b)) ((View.wordExact_bits rfl).reshape _ _) (View.wordExact_bits rfl) ⟨Or.inl rfl, trivial⟩)

def waitS (j : ℕ) : KProg F PUnit :=
  Prog.lift (.waitDma2 (sendSem j) (rbM j) (sbM j) (wordExact_rb j) (wordExact_sb j))
def waitR (j : ℕ) : KProg F PUnit :=
  Prog.lift (.waitDma2 (recvSem j) (sbM j) (rbM j) (wordExact_sb j) (wordExact_rb j))

/-- Wait for block `j` to land, and store it. -/
def drain (d : Dev nD) (j : ℕ) : KProg F PUnit := do
  waitR j
  let v ← Prog.lift (.load rbW (rRb j).toLoadRect (View.loadsAt_vmem h_S1x1024x512))
  emit d j (k0_pay50 (k0_pay49 v))

/-- What is sent: the activation of a sum, rounded. -/
def sendVal (acc : FVec F S1024x512 .f32) : FVec F S1x1024x512 .bf16 := k0_pay61 (k0_pay60 acc)

/-- The wait before sending in phase `j`, if its slot is taken. -/
def preS (j : ℕ) : KProg F PUnit := if 3 ≤ j then waitS (j - 2) else pure ⟨⟩

/-- Send the result of phase `j` to the device `j` places on. -/
def send (d : Dev nD) (j : ℕ) (acc : FVec F S1024x512 .f32) : KProg F PUnit := do
  preS j
  let _ ← Prog.lift (.load sbW (rTwo j).toLoadRect (View.loadsAt_vmem h_S1x1024x512))
  Prog.lift (.store sbW (rTwo j) (sendVal acc) Finset.univ (stores_sb j) (.inl rfl))
  Prog.lift (.enqueueDma (sbM j) (.remote (Dev.tc (sendDev d j)) (rbM j) (.dma (sendSem j))) (.dma (recvSem j)) (wordExact_sb j) (wordExact_rb j) ⟨⟨rfl, Or.inl rfl⟩, trivial⟩)

/-- Drain the block before, if there is one. -/
def drainPrev (d : Dev nD) (j : ℕ) : KProg F PUnit := if 2 ≤ j then drain d (j - 1) else pure ⟨⟩

/-- `n` of the phases `1 … 7`, from phase `j` on. -/
def phases (d : Dev nD) : ℕ → ℕ → KProg F PUnit
  | 0, _ => pure ⟨⟩
  | n + 1, j => do
    let a ← phase d j 8 0 acc0
    send d j a
    drainPrev d j
    phases d n (j + 1)

/-- `n` signals of the entry handshake, from signal `k` on; `n` starts, from task `t` on. -/
def signals (d : Dev nD) : ℕ → ℕ → KProg F PUnit
  | 0, _ => pure ⟨⟩
  | n + 1, k => do
    semSignalWord (sigDev d k) barS 1#32
    signals d n (k + 1)
def starts (d : Dev nD) : ℕ → ℕ → KProg F PUnit
  | 0, _ => pure ⟨⟩
  | n + 1, t => do
    startT d t
    starts d n (t + 1)

def body : KProg F PUnit := do
  let d ← Prog.lift .deviceId
  signals d 7 1
  semWaitWord barS 7#32
  starts d 6 0
  let a ← phase0 d 8 0 acc0
  emit d 0 (k0_pay27 a)
  phases d 7 1
  drain d 7
  waitO 8
  waitO 9
  waitS 6
  waitS 7

set_option maxRecDepth 100000 in
/-- The printed body is this program. -/
theorem body_eq (t : Fin cfg0.N) : (bodyAt0 t : KProg F PUnit) = body := by
  chain_rfl

end Cert.KernelProof

end
-- ==== Proof.Geom.lean ====
/-
# The kernel's offsets, peers and semaphores in closed form; its slots; the values it computes

Everything the kernel computes from its device number, in closed form; the disjointness of the slots it cuts
its buffers into; and, for any float values, what each sum, each sent block and each block of the result holds.
-/
module

public import proofs.«01_k».proof.Proof.Prog
public import Idealize.ShloMosaic.Lib.Pipeline.Value
public import Idealize.ShloMosaic.Lib.Ring

@[expose] public section

noncomputable section

namespace Cert.KernelProof

open Cert.KernelIdeal Cert.KernelIdeal.Gen
open Idealize.ShloMosaic Idealize.ShloMosaic.TcCoe
open Idealize.SL Idealize.SL.Sem

variable {F : FTy → Type} [FloatOps F]

/-! ## Peers -/

/-- The device `j` places on. -/
def peer (c : Dev nD) (j : ℕ) : Dev nD := ⟨(c.val + j) % 8, Nat.mod_lt _ (by decide)⟩

theorem peer_peer (c : Dev nD) (i j : ℕ) : peer (peer c i) j = peer c (i + j) :=
  Fin.ext (by simp only [peer]; omega)
theorem peer_eight (c : Dev nD) : peer c 8 = c := by
  have := c.isLt; have h8 : nD = 8 := rfl
  exact Fin.ext (by simp only [peer]; omega)
theorem peer_back (c : Dev nD) {j : ℕ} (hj : j ≤ 8) : peer (peer c (8 - j)) j = c := by
  rw [peer_peer, Nat.sub_add_cancel hj, peer_eight]
theorem peer_forth (c : Dev nD) {j : ℕ} (hj : j ≤ 8) : peer (peer c j) (8 - j) = c := by
  rw [peer_peer, Nat.add_sub_cancel' hj, peer_eight]

theorem sigDev_eq (c : Dev nD) {k : ℕ} (h1 : 1 ≤ k) (h7 : k ≤ 7) : sigDev c k = peer c k := by
  have key : ∀ c : Dev nD, ∀ i : Fin 7, sigDev c (i.val + 1) = peer c (i.val + 1) := by decide +kernel
  have := key c ⟨k - 1, by omega⟩
  rwa [show k - 1 + 1 = k by omega] at this
theorem sendDev_eq (c : Dev nD) {k : ℕ} (h1 : 1 ≤ k) (h7 : k ≤ 7) : sendDev c k = peer c k := by
  have key : ∀ c : Dev nD, ∀ i : Fin 7, sendDev c (i.val + 1) = peer c (i.val + 1) := by decide +kernel
  have := key c ⟨k - 1, by omega⟩
  rwa [show k - 1 + 1 = k by omega] at this

/-! ## Offsets -/

theorem wOff_eq (d : Dev nD) {j c : ℕ} (hj : j < 8) (hc : c < 8) : wOff d j c = ![1024 * c, 512 * ((d.val + j) % 8)] := by
  have key : ∀ d : Dev nD, ∀ j c : Fin 8, wOff d j.val c.val = ![1024 * c.val, 512 * ((d.val + j.val) % 8)] := by decide +kernel
  exact key d ⟨j, hj⟩ ⟨c, hc⟩
theorem oOff_eq (d : Dev nD) {b : ℕ} (hb : b < 8) : oOff d b = ![1024 * ((d.val + (8 - b)) % 8), 0] := by
  have key : ∀ d : Dev nD, ∀ b : Fin 8, oOff d b.val = ![1024 * ((d.val + (8 - b.val)) % 8), 0] := by decide +kernel
  exact key d ⟨b, hb⟩

/-! ## Semaphores -/

theorem stSem_val (t : ℕ) : (stSem t).val = t % 6 := by
  have key : ∀ n (hn : n < 6) (hi : ∀ a, (![n] : Fin 1 → ℕ) a + S1.size a ≤ S6.size a),
      (((cc0_scratch5.slice (Rect.unit (s := S6) ![n] S1.size hi) : DmaSems sig S1).squeeze S_ squeezes_S1_S_).sem).val = n := by
    intro n hn hi
    obtain rfl | rfl | rfl | rfl | rfl | rfl : n = 0 ∨ n = 1 ∨ n = 2 ∨ n = 3 ∨ n = 4 ∨ n = 5 := by omega
    all_goals (revert hi; decide +kernel)
  exact key _ (Nat.mod_lt t (show 0 < 6 by decide)) _
theorem outSem_val (t : ℕ) : (outSem t).val = 6 + t % 2 := by
  have key : ∀ n (hn : n < 2) (hi : ∀ a, (![n] : Fin 1 → ℕ) a + S1.size a ≤ S2.size a),
      (((cc0_scratch6.slice (Rect.unit (s := S2) ![n] S1.size hi) : DmaSems sig S1).squeeze S_ squeezes_S1_S_).sem).val = 6 + n := by
    intro n hn hi
    obtain rfl | rfl : n = 0 ∨ n = 1 := by omega
    all_goals (revert hi; decide +kernel)
  exact key _ (Nat.mod_lt t (show 0 < 2 by decide)) _
theorem sendSem_val (t : ℕ) : (sendSem t).val = 8 + t % 8 := by
  have key : ∀ n (hn : n < 8) (hi : ∀ a, (![n] : Fin 1 → ℕ) a + S1.size a ≤ S8.size a),
      (((cc0_scratch7.slice (Rect.unit (s := S8) ![n] S1.size hi) : DmaSems sig S1).squeeze S_ squeezes_S1_S_).sem).val = 8 + n := by
    intro n hn hi
    obtain rfl | rfl | rfl | rfl | rfl | rfl | rfl | rfl : n = 0 ∨ n = 1 ∨ n = 2 ∨ n = 3 ∨ n = 4 ∨ n = 5 ∨ n = 6 ∨ n = 7 := by omega
    all_goals (revert hi; decide +kernel)
  exact key _ (Nat.mod_lt t (show 0 < 8 by decide)) _
theorem recvSem_val (t : ℕ) : (recvSem t).val = 16 + t % 8 := by
  have key : ∀ n (hn : n < 8) (hi : ∀ a, (![n] : Fin 1 → ℕ) a + S1.size a ≤ S8.size a),
      (((cc0_scratch8.slice (Rect.unit (s := S8) ![n] S1.size hi) : DmaSems sig S1).squeeze S_ squeezes_S1_S_).sem).val = 16 + n := by
    intro n hn hi
    obtain rfl | rfl | rfl | rfl | rfl | rfl | rfl | rfl : n = 0 ∨ n = 1 ∨ n = 2 ∨ n = 3 ∨ n = 4 ∨ n = 5 ∨ n = 6 ∨ n = 7 := by omega
    all_goals (revert hi; decide +kernel)
  exact key _ (Nat.mod_lt t (show 0 < 8 by decide)) _

/-! ## Slots repeat -/

theorem stM_congr {t t' : ℕ} (h : t % 6 = t' % 6) : stM t = stM t' := by
  have key : ∀ n n' (hi : ∀ a, (![n, 0, 0] : Fin 3 → ℕ) a + S1x1024x512.size a ≤ S6x1024x512.size a)
      (hi' : ∀ a, (![n', 0, 0] : Fin 3 → ℕ) a + S1x1024x512.size a ≤ S6x1024x512.size a), n = n' →
      (stW.slice (Rect.unit (s := S6x1024x512) ![n, 0, 0] S1x1024x512.size hi) (fun _ => rfl)).squeeze S1024x512 squeezes_S1x1024x512_S1024x512
        = (stW.slice (Rect.unit (s := S6x1024x512) ![n', 0, 0] S1x1024x512.size hi') (fun _ => rfl)).squeeze S1024x512 squeezes_S1x1024x512_S1024x512 := by
    intro n n' hi hi' e; subst e; rfl
  exact key _ _ _ _ h
theorem osM_congr {t t' : ℕ} (h : t % 2 = t' % 2) : osM t = osM t' := by
  have key : ∀ n n' (hi : ∀ a, (![n, 0, 0] : Fin 3 → ℕ) a + S1x1024x512.size a ≤ S2x1024x512.size a)
      (hi' : ∀ a, (![n', 0, 0] : Fin 3 → ℕ) a + S1x1024x512.size a ≤ S2x1024x512.size a), n = n' →
      (osW.slice (Rect.unit (s := S2x1024x512) ![n, 0, 0] S1x1024x512.size hi) (fun _ => rfl)).squeeze S1024x512 squeezes_S1x1024x512_S1024x512
        = (osW.slice (Rect.unit (s := S2x1024x512) ![n', 0, 0] S1x1024x512.size hi') (fun _ => rfl)).squeeze S1024x512 squeezes_S1x1024x512_S1024x512 := by
    intro n n' hi hi' e; subst e; rfl
  exact key _ _ _ _ h
theorem sbM_congr {t t' : ℕ} (h : t % 2 = t' % 2) : sbM t = sbM t' := by
  have key : ∀ n n' (hi : ∀ a, (![n, 0, 0] : Fin 3 → ℕ) a + S1x1024x512.size a ≤ S2x1024x512.size a)
      (hi' : ∀ a, (![n', 0, 0] : Fin 3 → ℕ) a + S1x1024x512.size a ≤ S2x1024x512.size a), n = n' →
      (sbW.slice (Rect.unit (s := S2x1024x512) ![n, 0, 0] S1x1024x512.size hi) (fun _ => rfl)).squeeze S1024x512 squeezes_S1x1024x512_S1024x512
        = (sbW.slice (Rect.unit (s := S2x1024x512) ![n', 0, 0] S1x1024x512.size hi') (fun _ => rfl)).squeeze S1024x512 squeezes_S1x1024x512_S1024x512 := by
    intro n n' hi hi' e; subst e; rfl
  exact key _ _ _ _ h
theorem stSem_congr {t t' : ℕ} (h : t % 6 = t' % 6) : stSem t = stSem t' := Fin.ext (by rw [stSem_val, stSem_val, h])
theorem outSem_congr {t t' : ℕ} (h : t % 2 = t' % 2) : outSem t = outSem t' := Fin.ext (by rw [outSem_val, outSem_val, h])

/-! ## Tasks -/

theorem srcM_x0 (d : Dev nD) {c : ℕ} (hc : c < 8) : srcM d (3 * c) = xBlk (2 * c) := by
  unfold srcM
  rw [if_pos (by omega), if_pos (by omega), show 2 * (3 * c / 3) + 3 * c % 3 = 2 * c by omega]
theorem srcM_x1 (d : Dev nD) {c : ℕ} (hc : c < 8) : srcM d (3 * c + 1) = xBlk (2 * c + 1) := by
  unfold srcM
  rw [if_pos (by omega), if_pos (by omega), show 2 * ((3 * c + 1) / 3) + (3 * c + 1) % 3 = 2 * c + 1 by omega]
theorem srcM_w0 (d : Dev nD) {c : ℕ} (hc : c < 8) : srcM d (3 * c + 2) = wBlk d 0 c := by
  unfold srcM
  rw [if_pos (by omega), if_neg (by omega), show (3 * c + 2) / 3 = c by omega]
theorem srcM_w (d : Dev nD) {j c : ℕ} (hj : 1 ≤ j) (hc : c < 8) : srcM d (24 + 8 * (j - 1) + c) = wBlk d j c := by
  unfold srcM
  rw [if_neg (by omega), show (24 + 8 * (j - 1) + c - 24) / 8 + 1 = j by omega, show (24 + 8 * (j - 1) + c - 24) % 8 = c by omega]

/-! ## The blocks of the buffers: disjoint, and all of them -/

theorem set_st (t : ℕ) : (stM t).view.set = (rSt t).set := (View.set_reshape _ _).trans (View.set_slice_whole _ _)
theorem set_os (t : ℕ) : (osM t).view.set = (rTwo t).set := (View.set_reshape _ _).trans (View.set_slice_whole _ _)
theorem set_sb (t : ℕ) : (sbM t).view.set = (rTwo t).set := (View.set_reshape _ _).trans (View.set_slice_whole _ _)
theorem set_rb (t : ℕ) : (rbM t).view.set = (rRb t).set := (View.set_reshape _ _).trans (View.set_slice_whole _ _)
theorem set_o (d : Dev nD) (b : ℕ) : (oBlk d b).view.set = (Rect.unit (s := S8192x512) (oOff d b) S1024x512.size (inb_o d b)).set :=
  View.set_slice_whole _ _

theorem mem_st (t : ℕ) (i : S6x1024x512.Idx) : i ∈ (stM t).view.set ↔ (i 0).val = t % 6 := by
  rw [set_st, Rect.mem_set_unit]
  constructor
  · intro h; have := h 0; simp [S1x1024x512] at this; omega
  · intro h a; have := (i a).isLt
    fin_cases a <;> simp [S1x1024x512, S6x1024x512] at this ⊢ <;> omega
theorem mem_two (b : ℕ) (i : S2x1024x512.Idx) : i ∈ (rTwo b).set ↔ (i 0).val = b % 2 := by
  rw [Rect.mem_set_unit]
  constructor
  · intro h; have := h 0; simp [S1x1024x512] at this; omega
  · intro h a; have := (i a).isLt
    fin_cases a <;> simp [S1x1024x512, S2x1024x512] at this ⊢ <;> omega
theorem mem_rb (t : ℕ) (i : S8x1024x512.Idx) : i ∈ (rbM t).view.set ↔ (i 0).val = t % 8 := by
  rw [set_rb, Rect.mem_set_unit]
  constructor
  · intro h; have := h 0; simp [S1x1024x512] at this; omega
  · intro h a; have := (i a).isLt
    fin_cases a <;> simp [S1x1024x512, S8x1024x512] at this ⊢ <;> omega
theorem mem_o (d : Dev nD) {b : ℕ} (hb : b < 8) (i : S8192x512.Idx) :
    i ∈ (oBlk d b).view.set ↔ (i 0).val / 1024 = (d.val + (8 - b)) % 8 := by
  rw [set_o, Rect.mem_set_unit, oOff_eq d hb]
  constructor
  · intro h; have := h 0; simp [S1024x512] at this; omega
  · intro h a; have := (i a).isLt
    fin_cases a <;> simp [S1024x512, S8192x512] at this ⊢ <;> omega

/-! ## Values -/

section Vals

/-- A slot's contents as the plain block. -/
def down {α : Type} (v : S1x1024x512.Idx → α) : S1024x512.Idx → α := shapeCast S1024x512 v shapeCasts_S1x1024x512_S1024x512
def upc {α : Type} (v : S1024x512.Idx → α) : S1x1024x512.Idx → α := shapeCast S1x1024x512 v shapeCasts_S1024x512_S1x1024x512

theorem down_upc {α : Type} (v : S1024x512.Idx → α) : down (upc v) = v := shapeCast_shapeCast _ _ _

/-- A slot read through its squeezed view is the load of the slot, as a plain block. -/
theorem read_st (t : ℕ) (f : (cc0_scratch1 : Ref sig .tc).ty.Contents (Elt F)) :
    (stM t).view.read (Elt F) f = down (stW.view.readAt (Elt F) (rSt t).toLoadRect f) := rfl
theorem read_rb (t : ℕ) (f : (cc0_scratch4 : Ref sig .tc).ty.Contents (Elt F)) :
    (rbM t).view.read (Elt F) f = down (rbW.view.readAt (Elt F) (rRb t).toLoadRect f) := rfl
/-- and after a store of the slot, what was stored, as a plain block. -/
theorem read_os_store (b : ℕ) (f : (cc0_scratch2 : Ref sig .tc).ty.Contents (Elt F)) (w : FVec F S1x1024x512 .f32) :
    (osM b).view.read (Elt F) ((osW.access (rTwo b)).write (Elt F) f w Finset.univ) = down w := by
  show down ((osW.access (rTwo b)).read (Elt F) ((osW.access (rTwo b)).write (Elt F) f w Finset.univ)) = down w
  rw [View.read_write_univ]
theorem read_sb_store (b : ℕ) (f : (cc0_scratch3 : Ref sig .tc).ty.Contents (Elt F)) (w : FVec F S1x1024x512 .bf16) :
    (sbM b).view.read (Elt F) ((sbW.access (rTwo b)).write (Elt F) f w Finset.univ) = down w := by
  show down ((sbW.access (rTwo b)).read (Elt F) ((sbW.access (rTwo b)).write (Elt F) f w Finset.univ)) = down w
  rw [View.read_write_univ]

variable (m : (ℓ : Loc nD τ sig) → Buf (Elt F) ℓ)

/-- Device `d`'s rows of `x` and its copy of `w`. -/
def xAt (d : Dev nD) : FVec F S1024x8192 .f32 := m ((d : Thread nD τ).loc main_arg0)
def wAt (d : Dev nD) : FVec F S8192x4096 .f32 := m ((d : Thread nD τ).loc main_arg1)

/-- What task `t` fetches. -/
def blk (d : Dev nD) (t : ℕ) : FVec F S1024x512 .f32 := (srcM d t).view.read (Elt F) (m ((srcM d t).view.loc (d : Thread nD τ)))

/-- Device `d`'s `x`, rounded. -/
def xb (d : Dev nD) : FVec F S1024x8192 .bf16 := truncf .bf16 (xAt m d) bitsLt_bf16_f32

/-- Columns `1024 c …` of it. -/
def xbc (d : Dev nD) (c : ℕ) : FVec F S1024x1024 .bf16 := (xbW.access (rXc c)).read (Elt F) (xb m d)

/-- The block of `w` of rows `1024 c …` and the columns of the device `j` places on. -/
def wbl (d : Dev nD) (j c : ℕ) : FVec F S1024x512 .f32 := (wBlk d j c).view.read (Elt F) (wAt m d)

/-- The product of a chunk of `x` with a block of `w`, rounded. -/
def dotc (x : FVec F S1024x1024 .bf16) (a : FVec F S1024x512 .f32) : FVec F S1024x512 .f32 :=
  matmul dot_S1024x1024_S1024x512_S1024x512_1_0_0_1_n_n none x (truncf .bf16 a bitsLt_bf16_f32) (constant S1024x512 .f32 0x00000000#32)

/-- The sum of device `d` in phase `j` after `c` chunks. -/
def accv (d : Dev nD) (j : ℕ) : ℕ → FVec F S1024x512 .f32
  | 0 => acc0
  | 1 => dotc (xbc m d 0) (wbl m d j 0)
  | c + 2 => addf (accv d j (c + 1)) (dotc (xbc m d (c + 1)) (wbl m d j (c + 1)))

theorem accStep_eq (d : Dev nD) (j c : ℕ) (v : FVec F S1x1024x512 .f32) (hv : down v = wbl m d j c) :
    accStep c (accv m d j c) v (xbc m d c) = accv m d j (c + 1) := by
  match c with
  | 0 => show dotc (xbc m d 0) (down v) = _; rw [hv]; rfl
  | c + 1 => show addf _ (dotc (xbc m d (c + 1)) (down v)) = _; rw [hv]; rfl

/-- What device `d` sends in phase `j`: the activation of its sum, rounded. -/
def sendv (d : Dev nD) (j : ℕ) : FVec F S1024x512 .bf16 := down (sendVal (accv m d j 8))

/-- What block `b` of device `d`'s result holds: its own block the activation of its own sum, the others
    what the device `b` places back sent. -/
def outv (d : Dev nD) : ℕ → FVec F S1024x512 .f32
  | 0 => down (k0_pay27 (accv m d 0 8))
  | b + 1 => extf .f32 (sendv m (peer d (8 - (b + 1))) (b + 1)) bitsLt_bf16_f32

theorem pay50_eq (v : FVec F S1x1024x512 .bf16) : down (k0_pay50 (k0_pay49 v)) = extf .f32 (down v) bitsLt_bf16_f32 :=
  down_upc _

theorem blk_eq_of_w (d : Dev nD) {t j c : ℕ} (h : srcM d t = wBlk d j c) : blk m d t = wbl m d j c := by
  unfold blk; rw [h]; rfl
theorem blk_eq_of_x (d : Dev nD) {t k : ℕ} (h : srcM d t = xBlk k) : blk m d t = (xBlk k).view.read (Elt F) (xAt m d) := by
  unfold blk; rw [h]; rfl

/-! ### The rounded copy, block by block -/

theorem mem_x (k : ℕ) (i : S1024x8192.Idx) : i ∈ (xbW.access (rX k)).set ↔ 512 * (k % 16) ≤ (i 1).val ∧ (i 1).val < 512 * (k % 16) + 512 := by
  rw [show (xbW.access (rX k)).set = (rX k).set from View.set_slice_whole _ _, Rect.mem_set_unit]
  constructor
  · intro h; have := h 1; simp [S1024x512] at this; omega
  · intro h a; have := (i a).isLt
    fin_cases a <;> simp [S1024x512, S1024x8192] at this ⊢ <;> omega

/-- The first `n` columns agree with the rounded `x`. -/
def Upto (d : Dev nD) (n : ℕ) (f : FVec F S1024x8192 .bf16) : Prop := ∀ i, (i 1).val < n → f i = xb m d i

theorem upto_store (d : Dev nD) {k : ℕ} (hk : k < 16) {f : FVec F S1024x8192 .bf16} (hf : Upto m d (512 * k) f)
    (v : FVec F S1x1024x512 .f32) (hv : down v = (xBlk k).view.read (Elt F) (xAt m d)) :
    Upto m d (512 * (k + 1)) ((xbW.access (rX k)).write (Elt F) f (k0_pay1 v) Finset.univ) := by
  intro i hi
  by_cases hm : i ∈ (xbW.access (rX k)).set
  · obtain ⟨y, -, hy⟩ := Finset.mem_map.mp hm
    subst hy
    rw [View.write_emb_of_mem _ _ (Finset.mem_univ _)]
    show shapeCast S1024x512 (truncf .bf16 (down v) bitsLt_bf16_f32) shapeCasts_S1024x512_S1024x512 y = _
    rw [shapeCast_self, hv]; rfl
  · rw [View.write_of_not_mem _ _ _ hm]
    rw [mem_x, Nat.mod_eq_of_lt hk] at hm
    exact hf i (by omega)

theorem upto_load (d : Dev nD) {c n : ℕ} (hc : c < 8) (hn : 1024 * (c + 1) ≤ n) {f : FVec F S1024x8192 .bf16} (hf : Upto m d n f) :
    (xbW.view.readAt (Elt F) (rXc c).toLoadRect f : FVec F S1024x1024 .bf16) = xbc m d c := by
  funext y
  show f ((xbW.access (rXc c)).emb y) = xb m d ((xbW.access (rXc c)).emb y)
  apply hf
  have h1 : ((xbW.access (rXc c)).emb y) ∈ (rXc c).set := by
    rw [← show (xbW.access (rXc c)).set = (rXc c).set from View.set_slice_whole _ _]
    exact Finset.mem_map_of_mem _ (Finset.mem_univ _)
  have := (Rect.mem_set_unit.mp h1) 1
  simp [S1024x1024, Nat.mod_eq_of_lt hc] at this
  have h2 := this.2
  show (((View.whole cc0_scratch0).emb ((rXc c).emb y)) 1).val < n
  omega

end Vals

end Cert.KernelProof

end
-- ==== Proof.Proto.lean ====
/-
# The protocol: who hands what to whom

One round of each cell. Device `c`'s barrier cell has seven duties of one unit: duty `j` is paid by the device
`j` places on, and hands over that device's landing slot `j` — where `c` sends its block of phase `j`. The
receive cell `j` has one duty, paid by the device `j` places back: the landing slot holding what that device
sent. The send cell `j` has one, paid by the transfer itself: the send slot back. What a device owes is the
barrier units and the receive credits; a receive cell lies above the barrier, and receive cell `j + 1` above
receive cell `j`, so that each wait is below everything still owed.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ)

/-! ## Cells -/

abbrev barCell (c : Dev nD) : GSem nD τ sig := ((c : Thread nD τ), .reg barS)
abbrev sendCell (j : ℕ) (c : Dev nD) : GSem nD τ sig := ((c : Thread nD τ), .dma (sendSem j))
abbrev recvCell (j : ℕ) (c : Dev nD) : GSem nD τ sig := ((c : Thread nD τ), .dma (recvSem j))
abbrev stCell (t : ℕ) (c : Dev nD) : GSem nD τ sig := ((c : Thread nD τ), .dma (stSem t))
abbrev outCell (b : ℕ) (c : Dev nD) : GSem nD τ sig := ((c : Thread nD τ), .dma (outSem b))

/-- The credit of one block, rounded. -/
abbrev N : ℕ := (rbM 0).view.dmaCredit
theorem N_pos : 0 < N := View.dmaCredit_pos _ (by decide)
theorem N_rb (j : ℕ) : (rbM j).view.dmaCredit = N := by unfold N View.dmaCredit; rfl
theorem N_sb (j : ℕ) : (sbM j).view.dmaCredit = N := by unfold N View.dmaCredit; rfl
/-- The credit of one block at full width. -/
abbrev N32 : ℕ := (stM 0).view.dmaCredit
theorem N32_pos : 0 < N32 := View.dmaCredit_pos _ (by decide)
theorem N32_st (t : ℕ) : (stM t).view.dmaCredit = N32 := by unfold N32 View.dmaCredit; rfl
theorem N32_o (d : Dev nD) (b : ℕ) : (oBlk d b).view.dmaCredit = N32 := by unfold N32 View.dmaCredit; rfl
theorem N32_top : oTop.view.dmaCredit = N32 := by unfold N32 View.dmaCredit; rfl

/-! ## Slots held -/

section Pts
variable {sp : Space} {s : Shape} {e : EltTy}

/-- A block of device `c`, held at contents `f`; held at some contents; and held at contents that read `a`. -/
abbrev pts (c : Dev nD) (M : Memref sig .tc sp s e) (f : Buf (Elt F) (M.view.loc (c : Thread nD τ))) : sProp 𝕄 :=
  M.view.loc (c : Thread nD τ) ↦[M.view.set]{fullShare} f
def anyAt (c : Dev nD) (M : Memref sig .tc sp s e) : sProp 𝕄 := iprop(∃ f, pts c M f)
def holds (c : Dev nD) (M : Memref sig .tc sp s e) (a : s.Idx → Elt F e) : sProp 𝕄 :=
  iprop(∃ f, pts c M f ∗ ⌜M.view.read (Elt F) f = a⌝)

omit [FloatOps F] in
instance pts_storable (c : Dev nD) (M : Memref sig .tc sp s e) (f) : BI.Storable (upEmb : UEmb _ 𝕄) (pts (F := F) c M f) := by
  unfold pts; infer_instance
omit [FloatOps F] in
instance anyAt_storable (c : Dev nD) (M : Memref sig .tc sp s e) : BI.Storable (upEmb : UEmb _ 𝕄) (anyAt (F := F) c M) := by
  unfold anyAt; infer_instance
omit [FloatOps F] in
instance holds_storable (c : Dev nD) (M : Memref sig .tc sp s e) (a) : BI.Storable (upEmb : UEmb _ 𝕄) (holds (F := F) c M a) := by
  unfold holds; infer_instance
omit [FloatOps F] in
theorem holds_any (c : Dev nD) (M : Memref sig .tc sp s e) (a : s.Idx → Elt F e) : holds c M a ⊢ (anyAt c M : sProp 𝕄) := by
  unfold holds anyAt
  iintro ⟨%f, H, -⟩; iexists f; iexact H
end Pts

/-! ## The schedule -/

def barPay (c : Dev nD) (j : ℕ) : sProp 𝕄 := iprop(anyAt (peer c j) (rbM j) ∗ reached ER (recvCell j (peer c j)) 0)
def recvPay (c : Dev nD) (j : ℕ) : sProp 𝕄 := holds c (rbM j) (sendv m (peer c (8 - j)) j)
def sendPay (c : Dev nD) (j : ℕ) : sProp 𝕄 := anyAt c (sbM j)

def rd : Rounds.Schedule (GSem nD τ sig) ℕ 𝕄 where
  duties g r := if r = 0 ∧ g.1.2 = .tc then (match g.2 with
    | .reg _ => Finset.Icc 1 7
    | .dma q => if 9 ≤ q.val ∧ q.val ≠ 16 then {0} else ∅) else ∅
  unitless _ := False
  amount g _ _ := match g.2 with
    | .reg _ => 1
    | .dma _ => N
  payload g _ d := match g.2 with
    | .reg _ => barPay g.1.1 d
    | .dma q => if q.val < 16 then sendPay g.1.1 (q.val - 8) else recvPay m g.1.1 (q.val - 16)
  amount_pos g _ _ _ := by
    rcases g with ⟨t, _ | q⟩
    · exact Nat.one_pos
    · exact N_pos

instance rd_payload_storable (g : GSem nD τ sig) (r : ℕ) (d : ℕ) : BI.Storable (upEmb : UEmb _ 𝕄) ((rd (F := F) m).payload g r d) := by
  rcases g with ⟨t, _ | q⟩
  · show BI.Storable upEmb (barPay t.1 d)
    unfold barPay; infer_instance
  · show BI.Storable upEmb (if q.val < 16 then sendPay t.1 (q.val - 8) else recvPay m t.1 (q.val - 16))
    unfold sendPay recvPay
    split <;> infer_instance

section Sched
variable (c : Dev nD)

theorem duties_bar : (rd (F := F) m).duties (barCell c) 0 = Finset.Icc 1 7 := by dsimp only [rd]; exact if_pos ⟨rfl, rfl⟩
theorem duties_send {j : ℕ} (h1 : 1 ≤ j) (h7 : j ≤ 7) : (rd (F := F) m).duties (sendCell j c) 0 = {0} := by
  dsimp only [rd]; rw [if_pos ⟨rfl, rfl⟩, if_pos (by rw [sendSem_val]; omega)]
theorem duties_recv {j : ℕ} (h1 : 1 ≤ j) (h7 : j ≤ 7) : (rd (F := F) m).duties (recvCell j c) 0 = {0} := by
  dsimp only [rd]; rw [if_pos ⟨rfl, rfl⟩, if_pos (by rw [recvSem_val]; omega)]
theorem duties_later (g : GSem nD τ sig) : ∀ r, 1 ≤ r → (rd (F := F) m).duties g r = ∅ :=
  fun r hr => by dsimp only [rd]; rw [if_neg fun h => by omega]
theorem amount_bar (d : ℕ) : (rd (F := F) m).amount (barCell c) 0 d = 1 := rfl
theorem amount_send (j d : ℕ) : (rd (F := F) m).amount (sendCell j c) 0 d = N := rfl
theorem amount_recv (j d : ℕ) : (rd (F := F) m).amount (recvCell j c) 0 d = N := rfl
theorem expect_bar : (rd (F := F) m).expect (barCell c) 0 = 7 := by
  unfold Schedule.expect Schedule.amountOf
  rw [duties_bar, Finset.sum_congr rfl fun d _ => amount_bar m c d]; rfl
theorem expect_send {j : ℕ} (h1 : 1 ≤ j) (h7 : j ≤ 7) : (rd (F := F) m).expect (sendCell j c) 0 = N := by
  unfold Schedule.expect Schedule.amountOf; rw [duties_send m c h1 h7, Finset.sum_singleton, amount_send]
theorem expect_recv {j : ℕ} (h1 : 1 ≤ j) (h7 : j ≤ 7) : (rd (F := F) m).expect (recvCell j c) 0 = N := by
  unfold Schedule.expect Schedule.amountOf; rw [duties_recv m c h1 h7, Finset.sum_singleton, amount_recv]
theorem payload_bar (j : ℕ) : (rd (F := F) m).payload (barCell c) 0 j = barPay c j := rfl
theorem payload_send {j : ℕ} (h7 : j ≤ 7) (d : ℕ) : (rd (F := F) m).payload (sendCell j c) 0 d = sendPay c j := by
  dsimp only [rd]; rw [if_pos (by rw [sendSem_val]; omega), sendSem_val, show 8 + j % 8 - 8 = j by omega]
theorem payload_recv {j : ℕ} (h7 : j ≤ 7) (d : ℕ) : (rd (F := F) m).payload (recvCell j c) 0 d = recvPay m c j := by
  dsimp only [rd]; rw [if_neg (by rw [recvSem_val]; omega), recvSem_val, show 16 + j % 8 - 16 = j by omega]

theorem rest_bar : bigSep ((rd (F := F) m).duties (barCell c) 0 \ ∅) (fun d => (rd (F := F) m).payload (barCell c) 0 d)
    = bigSep (Finset.Icc 1 7) (fun j => barPay c j) := by
  rw [Finset.sdiff_empty, duties_bar]; rfl
theorem rest_send {j : ℕ} (h1 : 1 ≤ j) (h7 : j ≤ 7) :
    bigSep ((rd (F := F) m).duties (sendCell j c) 0 \ ∅) (fun d => (rd (F := F) m).payload (sendCell j c) 0 d) = sendPay c j := by
  rw [Finset.sdiff_empty, duties_send m c h1 h7, bigSep_singleton, payload_send m c h7]
theorem rest_recv {j : ℕ} (h1 : 1 ≤ j) (h7 : j ≤ 7) :
    bigSep ((rd (F := F) m).duties (recvCell j c) 0 \ ∅) (fun d => (rd (F := F) m).payload (recvCell j c) 0 d) = recvPay m c j := by
  rw [Finset.sdiff_empty, duties_recv m c h1 h7, bigSep_singleton, payload_recv m c h7]

end Sched

/-! ## What is owed -/

/-- What device `c` owes before its last `n` sends, and before its last `n` signals. -/
def Os (c : Dev nD) : ℕ → CellTallies nD τ sig Unit
  | 0 => 0
  | n + 1 => Os c n + tallyAt (recvCell (7 - n) (peer c (7 - n))) () N
def Ob (c : Dev nD) : ℕ → CellTallies nD τ sig Unit
  | 0 => Os c 7
  | n + 1 => Ob c n + tallyAt (barCell (peer c (7 - n))) () 1

def L (g : GSem nD τ sig) : Finset Unit := if g.1.2 = .tc then {()} else ∅
/-- The levels: the barrier at 1, receive cell `j` at `1 + j`, everything else at 0. -/
def lv (g : GSem nD τ sig) (_ : Unit) : ℕ := match g.2 with
  | .reg _ => 1
  | .dma q => if q.val < 16 then 0 else q.val - 15

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `k`. -/
def Above (k : ℕ) (O : CellTallies nD τ sig Unit) : Prop := ∀ (g : GSem nD τ sig) (u : Unit), 0 < O g u → g.1.2 = .tc ∧ k < lv g u

theorem Above.mono {k k' : ℕ} {O : CellTallies nD τ sig Unit} (h : Above k O) (hk : k' ≤ k) : Above k' O :=
  fun g u hg => ⟨(h g u hg).1, lt_of_le_of_lt hk (h g u hg).2⟩
theorem above_zero (k : ℕ) : Above k 0 := fun g u h => absurd h (by simp)
theorem Above.add {k : ℕ} {O O' : CellTallies nD τ sig Unit} (h : Above k O) (h' : Above k O') : Above k (O + O') := by
  intro g u hg
  rw [Pi.add_apply, Finsupp.add_apply] at hg
  rcases (show 0 < O g u ∨ 0 < O' g u by omega) with h1 | h1
  · exact h g u h1
  · exact h' g u h1
theorem above_tally {k n : ℕ} {g : GSem nD τ sig} (hg : g.1.2 = .tc) (hk : k < lv g ()) : Above k (tallyAt g () n) := by
  intro g' u h
  rw [tallyAt_apply] at h
  by_cases e : g' = g ∧ u = ()
  · rw [e.1]; exact ⟨hg, hk⟩
  · rw [if_neg e] at h; exact absurd h (Nat.lt_irrefl 0)

theorem lv_recv (j : ℕ) (h7 : j ≤ 7) (c : Dev nD) : lv (recvCell j c) () = 1 + j := by
  dsimp only [lv]; rw [if_neg (by rw [recvSem_val]; omega), recvSem_val]; omega

/-- Before its last `n` sends a device owes receive cells `8 - n …` only. -/
theorem above_Os (c : Dev nD) : ∀ {n : ℕ}, n ≤ 7 → Above (8 - n) (Os c n)
  | 0, _ => above_zero _
  | n + 1, hn => Above.add ((above_Os c (by omega)).mono (by omega)) (above_tally rfl (by rw [lv_recv _ (by omega)]; omega))

theorem above_Ob (c : Dev nD) : ∀ n : ℕ, Above 0 (Ob c n)
  | 0 => (above_Os c le_rfl).mono (by omega)
  | n + 1 => Above.add (above_Ob c n) (above_tally rfl (by dsimp only [lv]; exact Nat.one_pos))

omit [FloatOps F] in
/-- A wait on a cell at level `k` or below, while owing only above `k`. -/
theorem mayWait {k : ℕ} (c : Dev nD) (sm : SemLoc sig) (hs : lv ((c : Thread nD τ), sm) () ≤ k) {O : CellTallies nD τ sig Unit} (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem lv_st (t : ℕ) (c : Dev nD) : lv (stCell t c) () ≤ 0 := by
  dsimp only [lv]; rw [if_pos (by rw [stSem_val]; omega)]
theorem lv_out (t : ℕ) (c : Dev nD) : lv (outCell t c) () ≤ 0 := by
  dsimp only [lv]; rw [if_pos (by rw [outSem_val]; omega)]
theorem lv_send (t : ℕ) (c : Dev nD) : lv (sendCell t c) () ≤ 0 := by
  dsimp only [lv]; rw [if_pos (by rw [sendSem_val]; omega)]

/-! ## The cells' records -/

/-- The cells of one device: its barrier, its seven send cells, its seven receive cells. -/
def csem (k : Fin 15) : SemLoc sig := if k.val = 0 then .reg barS else if k.val ≤ 7 then .dma (sendSem k.val) else .dma (recvSem (k.val - 7))
def kcell (ck : Dev nD × Fin 15) : GSem nD τ sig := ((ck.1 : Thread nD τ), csem ck.2)

theorem kcell_bar (c : Dev nD) : kcell (c, 0) = barCell c := rfl
theorem kcell_send (c : Dev nD) (j : ℕ) (h1 : 1 ≤ j) (h7 : j ≤ 7) : kcell (c, ⟨j, by omega⟩) = sendCell j c := by
  unfold kcell csem
  rw [if_neg (show ¬ (⟨j, by omega⟩ : Fin 15).val = 0 by simp only; omega), if_pos (show (⟨j, by omega⟩ : Fin 15).val ≤ 7 from h7)]
theorem kcell_recv (c : Dev nD) (j : ℕ) (h1 : 1 ≤ j) (h7 : j ≤ 7) : kcell (c, ⟨j + 7, by omega⟩) = recvCell j c := by
  unfold kcell csem
  rw [if_neg (show ¬ (⟨j + 7, by omega⟩ : Fin 15).val = 0 by simp only; omega), if_neg (show ¬ (⟨j + 7, by omega⟩ : Fin 15).val ≤ 7 by simp only; omega)]
  simp only [Nat.add_sub_cancel]

/-- Every cell's invariant, under the names the launch gave them, and that its round 0 is reached. -/
def records (K : Dev nD × Fin 15 → ℕ) : sProp 𝕄 :=
  iprop((bigSep Finset.univ fun ck : Dev nD × Fin 15 => cellInv ER (rd m) (K ck) (kcell ck))
    ∗ bigSep Finset.univ fun ck : Dev nD × Fin 15 => reached ER (kcell ck) 0)

instance records_persistent (K : Dev nD × Fin 15 → ℕ) : BI.Persistent (records m K) := by unfold records; infer_instance

variable (K : Dev nD × Fin 15 → ℕ)

theorem inv_at (ck : Dev nD × Fin 15) : records m K ⊢ cellInv ER (rd m) (K ck) (kcell ck) := by
  unfold records; exact sep_elim_left.trans (bigSep_elim (Finset.mem_univ ck))
theorem reached_at (ck : Dev nD × Fin 15) : records m K ⊢ reached ER (kcell ck) 0 := by
  unfold records; exact sep_elim_right.trans (bigSep_elim (Φ := fun ck : Dev nD × Fin 15 => (reached ER (kcell ck) 0 : sProp 𝕄)) (Finset.mem_univ ck))

theorem inv_bar (c : Dev nD) : records m K ⊢ cellInv ER (rd m) (K (c, 0)) (barCell c) := inv_at m K (c, 0)
theorem inv_send (c : Dev nD) (j : ℕ) (h1 : 1 ≤ j) (h7 : j ≤ 7) : records m K ⊢ cellInv ER (rd m) (K (c, ⟨j, by omega⟩)) (sendCell j c) := by
  rw [← kcell_send c j h1 h7]; exact inv_at m K _
theorem inv_recv (c : Dev nD) (j : ℕ) (h1 : 1 ≤ j) (h7 : j ≤ 7) : records m K ⊢ cellInv ER (rd m) (K (c, ⟨j + 7, by omega⟩)) (recvCell j c) := by
  rw [← kcell_recv c j h1 h7]; exact inv_at m K _
theorem reached_bar (c : Dev nD) : records m K ⊢ reached ER (barCell c) 0 := reached_at m K (c, 0)
theorem reached_send (c : Dev nD) (j : ℕ) (h1 : 1 ≤ j) (h7 : j ≤ 7) : records m K ⊢ reached ER (sendCell j c) 0 := by
  rw [← kcell_send c j h1 h7]; exact reached_at m K _
theorem reached_recv (c : Dev nD) (j : ℕ) (h1 : 1 ≤ j) (h7 : j ≤ 7) : records m K ⊢ reached ER (recvCell j c) 0 := by
  rw [← kcell_recv c j h1 h7]; exact reached_at m K _

end Cert.KernelProof

end
-- ==== Proof.Stage.lean ====
/-
# One device's products: fetches, the rounded copy of `x`, and the sums

What a device does by itself. A task's staging slot is in flight until its wait, which hands it over holding the
task's block; the slot then goes out again for the task six further on. Each lemma is one piece of the program:
from what it needs, and a continuation at what it leaves, the piece runs.
-/
module

public import proofs.«01_k».proof.Proof.Proto

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
/-- A program of device `c` runs to `Q`. -/
abbrev WP {α : Type} (c : Dev nD) (p : KProg F α) (Q : α → sProp 𝕄) : sProp 𝕄 :=
  wp frame (wpE (defs₀ (F := F)) 𝒱₀ (c : Thread nD τ) none) Set.univ p Q

/-- What device `c` owes, whatever it has waited for. -/
def Owes (c : Dev nD) (O : CellTallies nD τ sig Unit) : sProp 𝕄 := iprop(∃ W, owes (c : Thread nD τ) O W)

variable (m : (ℓ : Loc nD τ sig) → Buf (Elt F) ℓ)

/-! ## Fetches -/

/-- The two inputs, each at some share. -/
def inp (c : Dev nD) : sProp 𝕄 :=
  iprop(∃ q : PosShare TreeShare, (((c : Thread nD τ).loc main_arg0) ↦{q} m ((c : Thread nD τ).loc main_arg0))
    ∗ (((c : Thread nD τ).loc main_arg1) ↦{q} m ((c : Thread nD τ).loc main_arg1)))

/-- Staging slot of task `t`, free: some contents, and its counter at zero; -/
def free (c : Dev nD) (t : ℕ) : sProp 𝕄 := iprop(anyAt c (stM t) ∗ semVal (stCell t c) 0)
/-- and in flight, if there is such a task. -/
def fl (c : Dev nD) (t : ℕ) : sProp 𝕄 :=
  if t < 80 then Transfers.Flight EC (c : Thread nD τ) (.dma (stSem t)) () N32 (holds c (stM t) (blk m c t)) else free c t

/-- Before task `t`: the inputs, and the six slots' fetches. -/
def Stg (c : Dev nD) (t : ℕ) : sProp 𝕄 :=
  iprop(inp m c ∗ fl m c t ∗ fl m c (t + 1) ∗ fl m c (t + 2) ∗ fl m c (t + 3) ∗ fl m c (t + 4) ∗ fl m c (t + 5))

omit [FloatOps F] in
theorem free_congr (c : Dev nD) {t t' : ℕ} (h : t % 6 = t' % 6) : (free c t : sProp 𝕄) = free c t' := by
  unfold free stCell; rw [stM_congr h, stSem_congr h]

theorem srcM_form (d : Dev nD) (t : ℕ) : (∃ k, srcM d t = xBlk k) ∨ ∃ j c, srcM d t = wBlk d j c := by
  unfold srcM
  split
  · split
    · exact .inl ⟨_, rfl⟩
    · exact .inr ⟨_, _, rfl⟩
  · exact .inr ⟨_, _, rfl⟩

/-- The block a task fetches, lent off the inputs. -/
theorem inp_lend (c : Dev nD) (t : ℕ) :
    inp m c ⊢ iprop(inp m c ∗ ∃ q : PosShare TreeShare, (srcM c t).view.loc (c : Thread nD τ) ↦[(srcM c t).view.set]{q} m ((srcM c t).view.loc (c : Thread nD τ))) := by
  unfold inp
  iintro ⟨%q, Hx, Hw⟩
  ihave ⟨Hx, Hx'⟩ := (pointsTo_share (PosShare.mem_left_op_right q)).1 $$ Hx
  ihave ⟨Hw, Hw'⟩ := (pointsTo_share (PosShare.mem_left_op_right q)).1 $$ Hw
  isplitl [Hx Hw]
  · iexists _
    isplitl [Hx]; · iexact Hx
    iexact Hw
  iexists _
  rcases srcM_form c t with ⟨k, h⟩ | ⟨j, cc, h⟩
  · rw [h]
    ihave ⟨H, -⟩ := (pointsTo_split_subset (Finset.subset_univ (xBlk k).view.set)).1 $$ Hx'
    iexact H
  · rw [h]
    ihave ⟨H, -⟩ := (pointsTo_split_subset (Finset.subset_univ (wBlk c j cc).view.set)).1 $$ Hw'
    iexact H

theorem wp_startT (c : Dev nD) {t : ℕ} (ht : t < 80) (K : PUnit → sProp 𝕄) :
    iprop(inp m c ∗ free c t) ⊢ iprop((iprop(inp m c ∗ fl m c t) -∗ K ⟨⟩) -∗ WP c (startT c t) K) := by
  unfold free anyAt
  iintro ⟨Hi, ⟨%f, Hs⟩, Hv⟩ Hk
  ihave ⟨Hi, ⟨%q, Hb⟩⟩ := (inp_lend m c t) $$ Hi
  unfold startT Prog.lift
  iapply (Transfers.wp_dmaLocal EC 𝒱₀ (c : Thread nD τ) none (dst := stM t) (sm := .dma (stSem t)) () N32 (N32_st t) N32_pos (le_refl _)) $$ [Hb Hs Hv]
  · isplitl [Hb]; · iexact Hb
    isplitl [Hs]; · iexact Hs
    iexact Hv
  iintro Hf
  rw [wp_ret]; imodintro
  iapply Hk
  isplitl [Hi]; · iexact Hi
  unfold fl; rw [if_pos ht]
  iapply (Transfers.Flight_mono EC (c : Thread nD τ) ?_) $$ Hf
  iintro ⟨H, -⟩
  unfold holds
  iexists _
  isplitl [H]; · iexact H
  ipureintro
  exact View.read_write_univ _ _

theorem wp_waitT (c : Dev nD) {t : ℕ} (ht : t < 80) {O : CellTallies nD τ sig Unit} (hO : Above 0 O) (K : PUnit → sProp 𝕄) :
    iprop(levAts L lv ∗ fl m c t ∗ Owes c O)
      ⊢ iprop((iprop(holds c (stM t) (blk m c t) ∗ semVal (stCell t c) 0 ∗ Owes c O) -∗ K ⟨⟩) -∗ WP c (waitT c t) K) := by
  unfold fl waitT Prog.lift Owes; rw [if_pos ht]
  iintro ⟨#Hlev, Hf, ⟨%W, HO⟩⟩ Hk
  iapply (Transfers.wp_waitLocalO EC 𝒱₀ (c : Thread nD τ) none () (N32_st t) (O := O) (W := W)) $$ [Hf HO]
  · isplitl [Hf]; · iexact Hf
    isplitl [HO]; · iexact HO
    iapply (mayWait c _ (lv_st t c) hO); iexact Hlev
  iintro ⟨Hs, Hv, HO⟩
  rw [wp_ret]; imodintro
  iapply Hk
  isplitl [Hs]; · iexact Hs
  isplitl [Hv]; · iexact Hv
  iexists _; iexact HO

theorem wp_nextT (c : Dev nD) (t : ℕ) (K : PUnit → sProp 𝕄) :
    iprop(inp m c ∗ free c t) ⊢ iprop((iprop(inp m c ∗ fl m c (t + 6)) -∗ K ⟨⟩) -∗ WP c (nextT c t) K) := by
  rw [free_congr c (t := t) (t' := t + 6) (by omega)]
  unfold nextT
  by_cases h : t + 6 < 80
  · rw [if_pos h]; exact wp_startT m c h K
  · rw [if_neg h]
    unfold fl WP; rw [if_neg h, Prog.pure_eq_ret, wp_ret]
    iintro H Hk
    imodintro
    iapply Hk; iexact H

/-- The first fetches. -/
theorem wp_starts (c : Dev nD) (K : PUnit → sProp 𝕄) :
    iprop(inp m c ∗ free c 0 ∗ free c 1 ∗ free c 2 ∗ free c 3 ∗ free c 4 ∗ free c 5)
      ⊢ iprop((Stg m c 0 -∗ K ⟨⟩) -∗ WP c (starts c 6 0) K) := by
  iintro ⟨Hi, H0, H1, H2, H3, H4, H5⟩ Hk
  simp only [starts, wp_bind, Prog.pure_eq_ret, wp_ret]
  iapply (wp_startT m c (t := 0) (by decide)) $$ [Hi H0]
  · isplitl [Hi] <;> iassumption
  iintro ⟨Hi, H0⟩
  iapply (wp_startT m c (t := 1) (by decide)) $$ [Hi H1]
  · isplitl [Hi] <;> iassumption
  iintro ⟨Hi, H1⟩
  iapply (wp_startT m c (t := 2) (by decide)) $$ [Hi H2]
  · isplitl [Hi] <;> iassumption
  iintro ⟨Hi, H2⟩
  iapply (wp_startT m c (t := 3) (by decide)) $$ [Hi H3]
  · isplitl [Hi] <;> iassumption
  iintro ⟨Hi, H3⟩
  iapply (wp_startT m c (t := 4) (by decide)) $$ [Hi H4]
  · isplitl [Hi] <;> iassumption
  iintro ⟨Hi, H4⟩
  iapply (wp_startT m c (t := 5) (by decide)) $$ [Hi H5]
  · isplitl [Hi] <;> iassumption
  iintro ⟨Hi, H5⟩
  imodintro
  iapply Hk
  unfold Stg
  isplitl [Hi]; · iexact Hi
  isplitl [H0]; · iexact H0
  isplitl [H1]; · iexact H1
  isplitl [H2]; · iexact H2
  isplitl [H3]; · iexact H3
  isplitl [H4] <;> iassumption

/-! ## Tasks -/

/-- The `bf16` copy of `x`, its first `n` columns stored. -/
def Xb (c : Dev nD) (n : ℕ) : sProp 𝕄 :=
  iprop(∃ f : FVec F S1024x8192 .bf16, (((c : Thread nD τ).loc cc0_scratch0) ↦{fullShare} f) ∗ ⌜Upto m c n f⌝)

/-- What the products run on: before task `t`, with `n` columns stored, owing `O`. -/
def Core (c : Dev nD) (t n : ℕ) (O : CellTallies nD τ sig Unit) : sProp 𝕄 :=
  iprop(levAts L lv ∗ Stg m c t ∗ Xb m c n ∗ Owes c O)

omit [FloatOps F] in
theorem st_setOn (t : ℕ) : (stW.view.setOn (rSt t).toLoadRect.set) ⊆ (stM t).view.set := by
  rw [set_st]
  exact le_of_eq ((View.set_slice stW.view (rSt t)).symm.trans (View.set_slice_whole _ _))

theorem wp_xTask (c : Dev nD) {k t : ℕ} (hk : k < 16) (ht : t < 80) (hs : srcM c t = xBlk k) {O : CellTallies nD τ sig Unit} (hO : Above 0 O)
    (K : PUnit → sProp 𝕄) :
    Core m c t (512 * k) O ⊢ iprop((Core m c (t + 1) (512 * (k + 1)) O -∗ K ⟨⟩) -∗ WP c (xTask c k t) K) := by
  unfold Core Stg Xb
  iintro ⟨#Hlev, ⟨Hi, H0, H1, H2, H3, H4, H5⟩, ⟨%f, Hx, %hf⟩, HO⟩ Hk
  simp only [xTask, wp_bind]
  iapply (wp_waitT m c ht hO) $$ [H0 HO]
  · isplitr; · iexact Hlev
    isplitl [H0] <;> iassumption
  unfold holds
  iintro ⟨⟨%g, Hs, %hg⟩, Hv, HO⟩
  simp only [Prog.lift]
  iapply (wp_load 𝒱₀ (c : Thread nD τ) none Set.univ (m := stW) (S := (stM t).view.set) (st_setOn t)) $$ Hs; iintro Hs
  rw [wp_ret]; imodintro
  iapply (wp_load 𝒱₀ (c : Thread nD τ) none Set.univ (m := xbW) (Finset.subset_univ _)) $$ Hx; iintro Hx
  rw [wp_ret]; imodintro
  iapply (wp_store 𝒱₀ (c : Thread nD τ) none Set.univ (m := xbW) (r := rX k) (Mk := Finset.univ) (Finset.subset_univ _)) $$ Hx; iintro Hx
  rw [wp_ret]; imodintro
  iapply (wp_nextT m c t) $$ [Hi Hs Hv]
  · isplitl [Hi]; · iexact Hi
    unfold free anyAt
    isplitl [Hs]; · iexists g; iexact Hs
    iexact Hv
  iintro ⟨Hi, H6⟩
  iapply Hk
  isplitr; · iexact Hlev
  isplitr [Hx HO]
  · isplitl [Hi]; · iexact Hi
    isplitl [H1]; · iexact H1
    isplitl [H2]; · iexact H2
    isplitl [H3]; · iexact H3
    isplitl [H4]; · iexact H4
    isplitl [H5] <;> iassumption
  isplitl [Hx]
  · iexists _
    isplitl [Hx]; · iexact Hx
    ipureintro
    exact upto_store m c hk hf _ (hg.trans (blk_eq_of_x m c hs))
  iexact HO

theorem wp_wTask (c : Dev nD) {j cc t n : ℕ} (hc : cc < 8) (ht : t < 80) (hs : srcM c t = wBlk c j cc) (hn : 1024 * (cc + 1) ≤ n)
    {O : CellTallies nD τ sig Unit} (hO : Above 0 O) (K : FVec F S1024x512 .f32 → sProp 𝕄) :
    Core m c t n O ⊢ iprop((Core m c (t + 1) n O -∗ K (accv m c j (cc + 1))) -∗ WP c (wTask c cc t (accv m c j cc)) K) := by
  unfold Core Stg Xb
  iintro ⟨#Hlev, ⟨Hi, H0, H1, H2, H3, H4, H5⟩, ⟨%f, Hx, %hf⟩, HO⟩ Hk
  simp only [wTask, wp_bind]
  iapply (wp_waitT m c ht hO) $$ [H0 HO]
  · isplitr; · iexact Hlev
    isplitl [H0] <;> iassumption
  unfold holds
  iintro ⟨⟨%g, Hs, %hg⟩, Hv, HO⟩
  simp only [Prog.lift]
  iapply (wp_load 𝒱₀ (c : Thread nD τ) none Set.univ (m := stW) (S := (stM t).view.set) (st_setOn t)) $$ Hs; iintro Hs
  rw [wp_ret]; imodintro
  iapply (wp_load 𝒱₀ (c : Thread nD τ) none Set.univ (m := xbW) (Finset.subset_univ _)) $$ Hx; iintro Hx
  rw [wp_ret]; imodintro
  iapply (wp_nextT m c t) $$ [Hi Hs Hv]
  · isplitl [Hi]; · iexact Hi
    unfold free anyAt
    isplitl [Hs]; · iexists g; iexact Hs
    iexact Hv
  iintro ⟨Hi, H6⟩
  rw [upto_load m c hc hn hf, accStep_eq m c j cc (stW.view.readAt (Elt F) (rSt t).toLoadRect g) (hg.trans (blk_eq_of_w m c hs)), Prog.pure_eq_ret, wp_ret]
  imodintro
  iapply Hk
  isplitr; · iexact Hlev
  isplitr [Hx HO]
  · isplitl [Hi]; · iexact Hi
    isplitl [H1]; · iexact H1
    isplitl [H2]; · iexact H2
    isplitl [H3]; · iexact H3
    isplitl [H4]; · iexact H4
    isplitl [H5] <;> iassumption
  isplitl [Hx]
  · iexists _
    isplitl [Hx]; · iexact Hx
    ipureintro; exact hf
  iexact HO

/-- The first phase: from chunk `cc` on, `n` chunks. -/
theorem wp_phase0 (c : Dev nD) {O : CellTallies nD τ sig Unit} (hO : Above 0 O) :
    ∀ (n cc : ℕ), cc + n ≤ 8 → ∀ K : FVec F S1024x512 .f32 → sProp 𝕄,
      Core m c (3 * cc) (1024 * cc) O
        ⊢ iprop((Core m c (3 * (cc + n)) (1024 * (cc + n)) O -∗ K (accv m c 0 (cc + n))) -∗ WP c (phase0 c n cc (accv m c 0 cc)) K)
  | 0, cc, _, K => by
    simp only [phase0, Prog.pure_eq_ret, wp_ret]
    iintro H Hk; imodintro; iapply Hk; iexact H
  | n + 1, cc, h, K => by
    simp only [phase0, wp_bind]
    iintro H Hk
    rw [show 1024 * cc = 512 * (2 * cc) by omega]
    iapply (wp_xTask m c (k := 2 * cc) (t := 3 * cc) (by omega) (by omega) (srcM_x0 c (by omega)) hO) $$ H
    iintro H
    iapply (wp_xTask m c (k := 2 * cc + 1) (t := 3 * cc + 1) (by omega) (by omega) (srcM_x1 c (by omega)) hO) $$ H
    iintro H
    iapply (wp_wTask m c (j := 0) (cc := cc) (t := 3 * cc + 2) (n := 512 * (2 * cc + 1 + 1)) (by omega) (by omega) (srcM_w0 c (by omega)) (by omega) hO) $$ H
    iintro H
    rw [show 3 * cc + 2 + 1 = 3 * (cc + 1) by omega, show 512 * (2 * cc + 1 + 1) = 1024 * (cc + 1) by omega]
    iapply (wp_phase0 c hO n (cc + 1) (by omega) K) $$ H
    rw [show cc + 1 + n = cc + (n + 1) by omega]
    iexact Hk

/-- Phase `j`: from chunk `cc` on, `n` chunks. -/
theorem wp_phase (c : Dev nD) {j : ℕ} (h1 : 1 ≤ j) (h7 : j ≤ 7) {O : CellTallies nD τ sig Unit} (hO : Above 0 O) :
    ∀ (n cc : ℕ), cc + n ≤ 8 → ∀ K : FVec F S1024x512 .f32 → sProp 𝕄,
      Core m c (24 + 8 * (j - 1) + cc) 8192 O
        ⊢ iprop((Core m c (24 + 8 * (j - 1) + (cc + n)) 8192 O -∗ K (accv m c j (cc + n))) -∗ WP c (phase c j n cc (accv m c j cc)) K)
  | 0, cc, _, K => by
    simp only [phase, Prog.pure_eq_ret, wp_ret]
    iintro H Hk; imodintro; iapply Hk; iexact H
  | n + 1, cc, h, K => by
    simp only [phase, wp_bind]
    iintro H Hk
    iapply (wp_wTask m c (j := j) (cc := cc) (t := 24 + 8 * (j - 1) + cc) (n := 8192) (by omega) (by omega) (srcM_w c h1 (by omega)) (by omega) hO) $$ H
    iintro H
    iapply (wp_phase c h1 h7 hO n (cc + 1) (by omega) K) $$ H
    rw [show cc + 1 + n = cc + (n + 1) by omega]
    iexact Hk

end Cert.KernelProof

end
-- ==== Proof.Comm.lean ====
/-
# One device's run: the handshake, the blocks it sends, the blocks that arrive, the result

The pieces of the program that talk to other devices or write the result, each as a lemma in the form of
the products'; and the whole program from what the launch gives a device to what it hands back.
-/
module

public import proofs.«01_k».proof.Proof.Stage

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Runs of indices -/

omit [FloatOps F] in
theorem icc_peel {a b : ℕ} (h : a ≤ b) (Φ : ℕ → sProp 𝕄) :
    bigSep (Finset.Icc a b) Φ = iprop(Φ a ∗ bigSep (Finset.Icc (a + 1) b) Φ) := by
  rw [show Finset.Icc a b = insert a (Finset.Icc (a + 1) b) by ext x; simp only [Finset.mem_Icc, Finset.mem_insert]; omega,
    BI.bigSep_insert (by simp only [Finset.mem_Icc]; omega)]
  rfl
omit [FloatOps F] in
theorem icc_grow {a b : ℕ} (h : a ≤ b + 1) (Φ : ℕ → sProp 𝕄) :
    bigSep (Finset.Icc a (b + 1)) Φ = iprop(Φ (b + 1) ∗ bigSep (Finset.Icc a b) Φ) := by
  rw [show Finset.Icc a (b + 1) = insert (b + 1) (Finset.Icc a b) by ext x; simp only [Finset.mem_Icc, Finset.mem_insert]; omega,
    BI.bigSep_insert (by simp only [Finset.mem_Icc]; omega)]
  rfl
omit [FloatOps F] in
theorem icc_none {a b : ℕ} (h : b < a) (Φ : ℕ → sProp 𝕄) : bigSep (Finset.Icc a b) Φ = (iprop(emp) : sProp 𝕄) := by
  rw [Finset.Icc_eq_empty (by omega), BI.bigSep_empty]; rfl
omit [FloatOps F] in
theorem range_grow (n : ℕ) (Φ : ℕ → sProp 𝕄) : bigSep (Finset.range (n + 1)) Φ = iprop(Φ n ∗ bigSep (Finset.range n) Φ) := by
  rw [Finset.range_add_one, BI.bigSep_insert Finset.notMem_range_self]; rfl

variable (m : (ℓ : Loc nD τ sig) → Buf (Elt F) ℓ) (K : Dev nD × Fin 15 → ℕ)

/-! ## The entry handshake -/

/-- What signal `k` needs: the duty it pays at the device `k` places on, and the landing slot it hands over. -/
def SigRes (c : Dev nD) (k : ℕ) : sProp 𝕄 := iprop(dutyTok ER (barCell (peer c k)) 0 (8 - k) ∗ anyAt c (rbM (8 - k)))

theorem wp_signals (c : Dev nD) (Q : PUnit → sProp 𝕄) : ∀ n : ℕ, n ≤ 7 →
    iprop(records m K ∗ bigSep (Finset.Icc (8 - n) 7) (SigRes c) ∗ Owes c (Ob c n))
      ⊢ iprop((Owes c (Ob c 0) -∗ Q ⟨⟩) -∗ WP c (signals c n (8 - n)) Q)
  | 0, _ => by
    simp only [signals, Prog.pure_eq_ret, wp_ret]
    iintro ⟨-, -, HO⟩ Hk; imodintro; iapply Hk; iexact HO
  | n + 1, h => by
    have e : 8 - (n + 1) = 7 - n := by omega
    rw [icc_peel (by omega), e, show 7 - n + 1 = 8 - n by omega]
    simp only [signals]
    rw [sigDev_eq c (by omega) (by omega), show 7 - n + 1 = 8 - n by omega]
    simp only [semSignalWord, Prog.lift, Prog.bind_op, Prog.bind_ret, Prog.pure_eq_ret]
    unfold SigRes Owes
    iintro ⟨#HR, ⟨⟨Ht, Hs⟩, Hrest⟩, ⟨%W, HO⟩⟩ Hk
    iapply (Rounds.wp_signal 𝒱₀ ER (rd m) (c : Thread nD τ) none (dst := (peer c (7 - n) : Thread nD τ)) (κ := K (peer c (7 - n), 0))
        (d := 8 - (7 - n)) (by rw [duties_bar, Finset.mem_Icc]; omega) ((amount_bar m (peer c (7 - n)) _).trans (by decide)) () (Ob c n) rfl)
      $$ [HO Ht Hs]
    · isplitr; · iapply (inv_bar m K (peer c (7 - n))); iexact HR
      isplitl [HO]; · iexact HO
      isplitl [Ht]; · iexact Ht
      isplitl [Hs]
      · rw [payload_bar]; unfold barPay; rw [peer_forth c (by omega)]
        isplitl [Hs]; · iexact Hs
        iapply (reached_recv m K c (8 - (7 - n)) (by omega) (by omega)); iexact HR
      iapply (reached_bar m K (peer c (7 - n))); iexact HR
    iintro HO
    iapply (wp_signals c Q n (by omega)) $$ [Hrest HO]
    · isplitr; · iexact HR
      isplitl [Hrest]; · iexact Hrest
      unfold Owes; iexists W; iexact HO
    unfold Owes
    iexact Hk

theorem wp_barrier (c : Dev nD) (Q : PUnit → sProp 𝕄) :
    iprop(records m K ∗ levAts L lv ∗ cred (tallyAt (barCell c) () 7) ∗ atPos ER (barCell c) 0 ∅ 0 ∗ Owes c (Ob c 0))
      ⊢ iprop((iprop(Owes c (Os c 7) ∗ semVal (barCell c) 0 ∗ bigSep (Finset.Icc 1 7) (fun j => barPay c j)) -∗ Q ⟨⟩)
          -∗ WP c (semWaitWord barS 7#32) Q) := by
  simp only [semWaitWord, Prog.lift, Prog.bind_op, Prog.bind_ret, Prog.pure_eq_ret, Ob]
  unfold Owes
  iintro ⟨#HR, #Hlev, Hc, Hat, ⟨%W, HO⟩⟩ Hk
  ihave #HI := (inv_bar m K c) $$ HR
  iapply (Rounds.wp_wait_rest_token 𝒱₀ ER (rd m) (c : Thread nD τ) none (κ := K (c, 0))
      (wpE_semWait_eq 𝒱₀ (c : Thread nD τ) none Set.univ) (Set.mem_univ _) () (O := Os c 7) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) (le_refl 1) (above_Os c (le_refl 7))); iexact Hlev
    iexact Hat
  iintro ⟨HO, Hat, -, Hp⟩
  ihave Hp := (Entails.of_eq (rest_bar m c)) $$ Hp
  imod (Rounds.cell_close ER (rd m) (Set.mem_univ (K (c, 0))) (fun h => h) (R := 0 + 1) (duties_later m (barCell c))) $$ [Hat] with Hz
  · isplitr; · iexact HI
    iexact Hat
  rw [wp_ret]; imodintro
  iapply Hk
  isplitl [HO]; · iexists _; iexact HO
  isplitl [Hz] <;> iassumption

/-! ## The result's blocks -/

/-- Output staging slot of block `b`, free; and in flight into the block. -/
def ofree (c : Dev nD) (b : ℕ) : sProp 𝕄 := iprop(anyAt c (osM b) ∗ semVal (outCell b c) 0)
def ofl (c : Dev nD) (b : ℕ) : sProp 𝕄 :=
  Transfers.Flight EC (c : Thread nD τ) (.dma (outSem b)) () N32 iprop(holds c (oBlk c b) (outv m c b) ∗ anyAt c (osM b))
/-- The slot before block `b`: free at first, then in flight with the block two before. -/
def osl (c : Dev nD) (b : ℕ) : sProp 𝕄 := if b < 2 then ofree c b else ofl m c (b - 2)
theorem osl_lt (c : Dev nD) {b : ℕ} (h : b < 2) : osl m c b = ofree c b := if_pos h
theorem osl_ge (c : Dev nD) {b b' : ℕ} (h : b = b' + 2) : osl m c b = ofl m c b' := by
  unfold osl; rw [if_neg (by omega), h, Nat.add_sub_cancel]
/-- Before block `b`: the two slots, the blocks not started, the blocks done. -/
def Outs (c : Dev nD) (b : ℕ) : sProp 𝕄 :=
  iprop(osl m c b ∗ osl m c (b + 1) ∗ bigSep (Finset.Icc b 7) (fun i => anyAt c (oBlk c i))
    ∗ bigSep (Finset.range (b - 2)) (fun i => holds c (oBlk c i) (outv m c i)))

omit [FloatOps F] in
theorem ofree_congr (c : Dev nD) {b b' : ℕ} (h : b % 2 = b' % 2) : (ofree c b : sProp 𝕄) = ofree c b' := by
  unfold ofree outCell; rw [osM_congr h, outSem_congr h]

theorem wp_waitO (c : Dev nD) {b : ℕ} (hb : 2 ≤ b) {O : CellTallies nD τ sig Unit} (hO : Above 0 O) (Q : PUnit → sProp 𝕄) :
    iprop(levAts L lv ∗ ofl m c (b - 2) ∗ Owes c O)
      ⊢ iprop((iprop(holds c (oBlk c (b - 2)) (outv m c (b - 2)) ∗ ofree c b ∗ Owes c O) -∗ Q ⟨⟩) -∗ WP c (waitO b) Q) := by
  rw [ofree_congr c (show b % 2 = (b - 2) % 2 by omega)]
  unfold ofl ofree waitO Prog.lift Owes outCell
  rw [outSem_congr (show b % 2 = (b - 2) % 2 by omega)]
  iintro ⟨#Hlev, Hf, ⟨%W, HO⟩⟩ Hk
  iapply (Transfers.wp_waitLocalO EC 𝒱₀ (c : Thread nD τ) none () N32_top (O := O) (W := W)) $$ [Hf HO]
  · isplitl [Hf]; · iexact Hf
    isplitl [HO]; · iexact HO
    iapply (mayWait c _ (lv_out (b - 2) c) hO); iexact Hlev
  iintro ⟨⟨Hb, Hs⟩, Hv, HO⟩
  rw [wp_ret]; imodintro
  iapply Hk
  isplitl [Hb]; · iexact Hb
  isplitl [Hs Hv]
  · isplitl [Hs] <;> iassumption
  iexists _; iexact HO

/-- The wait before block `b`, if any. -/
theorem wp_preO (c : Dev nD) {b : ℕ} {O : CellTallies nD τ sig Unit} (hO : Above 0 O) (Q : PUnit → sProp 𝕄) :
    iprop(levAts L lv ∗ osl m c b ∗ bigSep (Finset.range (b - 2)) (fun i => holds c (oBlk c i) (outv m c i)) ∗ Owes c O)
      ⊢ iprop((iprop(ofree c b ∗ bigSep (Finset.range (b + 1 - 2)) (fun i => holds c (oBlk c i) (outv m c i)) ∗ Owes c O) -∗ Q ⟨⟩)
          -∗ WP c (preO b) Q) := by
  unfold osl preO
  by_cases hb : 2 ≤ b
  · rw [if_pos hb, if_neg (by omega), show b + 1 - 2 = (b - 2) + 1 by omega, range_grow]
    iintro ⟨#Hlev, Hf, Hd, HO⟩ Hk
    iapply (wp_waitO m c hb hO) $$ [Hf HO]
    · isplitr; · iexact Hlev
      isplitl [Hf] <;> iassumption
    iintro ⟨Hb, Hs, HO⟩
    iapply Hk
    isplitl [Hs]; · iexact Hs
    isplitl [Hb Hd]
    · isplitl [Hb] <;> iassumption
    iexact HO
  · rw [if_neg hb, if_pos (by omega), show b + 1 - 2 = b - 2 by omega]
    unfold WP
    rw [Prog.pure_eq_ret, wp_ret]
    iintro ⟨-, H⟩ Hk
    imodintro
    iapply Hk; iexact H

omit [FloatOps F] in
theorem os_setOn (b : ℕ) : (osW.view.setOn (rTwo b).toLoadRect.set) ⊆ (osM b).view.set := by
  rw [set_os]
  exact le_of_eq ((View.set_slice osW.view (rTwo b)).symm.trans (View.set_slice_whole _ _))
omit [FloatOps F] in
theorem os_access (b : ℕ) : (osW.access (rTwo b)).setOn Finset.univ ⊆ (osM b).view.set := by
  rw [set_os]
  exact le_of_eq (View.set_slice_whole _ _)

theorem wp_emit (c : Dev nD) {b : ℕ} (hb : b ≤ 7) (val : FVec F S1x1024x512 .f32) (hv : down val = outv m c b)
    {O : CellTallies nD τ sig Unit} (hO : Above 0 O) (Q : PUnit → sProp 𝕄) :
    iprop(levAts L lv ∗ Outs m c b ∗ Owes c O)
      ⊢ iprop((iprop(Outs m c (b + 1) ∗ Owes c O) -∗ Q ⟨⟩) -∗ WP c (emit c b val) Q) := by
  unfold Outs
  rw [icc_peel hb]
  iintro ⟨#Hlev, ⟨Hs, Hs', ⟨Hb, Hrest⟩, Hd⟩, HO⟩ Hk
  simp only [emit, wp_bind]
  iapply (wp_preO m c hO) $$ [Hs Hd HO]
  · isplitr; · iexact Hlev
    isplitl [Hs]; · iexact Hs
    isplitl [Hd] <;> iassumption
  unfold ofree anyAt
  iintro ⟨⟨⟨%f, Hs⟩, Hv⟩, Hd, HO⟩
  icases Hb with ⟨%fb, Hb⟩
  simp only [Prog.lift]
  iapply (wp_load 𝒱₀ (c : Thread nD τ) none Set.univ (m := osW) (S := (osM b).view.set) (os_setOn b)) $$ Hs; iintro Hs
  rw [wp_ret]; imodintro
  iapply (wp_store 𝒱₀ (c : Thread nD τ) none Set.univ (m := osW) (r := rTwo b) (Mk := Finset.univ) (S := (osM b).view.set) (os_access b)) $$ Hs; iintro Hs
  rw [wp_ret]; imodintro
  iapply (Transfers.wp_dmaLocal EC 𝒱₀ (c : Thread nD τ) none (src := osM b) (dst := oBlk c b) (sm := .dma (outSem b)) () N32 (N32_o c b) N32_pos (le_refl _))
    $$ [Hs Hb Hv]
  · isplitl [Hs]; · iexact Hs
    isplitl [Hb]; · iexact Hb
    iexact Hv
  iintro Hf
  rw [wp_ret]; imodintro
  iapply Hk
  isplitr [HO]
  · isplitl [Hs']; · iexact Hs'
    isplitl [Hf]
    · unfold osl ofl
      rw [if_neg (by omega), show b + 1 + 1 - 2 = b by omega]
      iapply (Transfers.Flight_mono EC (c : Thread nD τ) ?_) $$ Hf
      unfold holds anyAt
      iintro ⟨H, H'⟩
      isplitl [H]
      · iexists _
        isplitl [H]; · iexact H
        ipureintro
        exact (View.read_write_univ _ _).trans ((read_os_store b f val).trans hv)
      iexists _; iexact H'
    isplitl [Hrest] <;> iassumption
  iexact HO

/-! ## Sending -/

def sfl (c : Dev nD) (j : ℕ) : sProp 𝕄 := iprop(cred (tallyAt (sendCell j c) () N) ∗ atPos ER (sendCell j c) 0 ∅ 0)
/-- The send slot before phase `j`: free at first, then lent to the transfer two before. -/
def ssl (c : Dev nD) (j : ℕ) : sProp 𝕄 := if j < 3 then anyAt c (sbM j) else sfl c (j - 2)
theorem ssl_lt (c : Dev nD) {j : ℕ} (h : j < 3) : (ssl c j : sProp 𝕄) = anyAt c (sbM j) := if_pos h
theorem ssl_ge (c : Dev nD) {j j' : ℕ} (h : j = j' + 2) (h' : 1 ≤ j') : (ssl c j : sProp 𝕄) = sfl c j' := by
  unfold ssl; rw [if_neg (by omega), h, Nat.add_sub_cancel]
/-- What the send of phase `j` needs. -/
def SendRes (c : Dev nD) (j : ℕ) : sProp 𝕄 :=
  iprop((dutyTok ER (sendCell j c) 0 0 ∗ dutyTok ER (recvCell j (peer c j)) 0 0 ∗ atPos ER (sendCell j c) 0 ∅ 0) ∗ barPay c j)
theorem sendRes_eq (c : Dev nD) : bigSep (Finset.Icc 1 7) (SendRes (F := F) c)
    = iprop((bigSep (Finset.Icc 1 7) fun j => iprop(dutyTok ER (sendCell j c) 0 0 ∗ dutyTok ER (recvCell j (peer c j)) 0 0 ∗ atPos ER (sendCell j c) 0 ∅ 0))
        ∗ bigSep (Finset.Icc 1 7) fun j => barPay c j) := by
  unfold SendRes; exact BI.bigSep_sep' ..
/-- Before phase `j`'s send. -/
def Sends (c : Dev nD) (j : ℕ) : sProp 𝕄 :=
  iprop(ssl c j ∗ ssl c (j + 1) ∗ bigSep (Finset.Icc j 7) (SendRes c) ∗ bigSep (Finset.Icc 1 (j - 3)) (fun i => semVal (sendCell i c) 0))

theorem wp_waitS (c : Dev nD) {j : ℕ} (h1 : 1 ≤ j) (h7 : j ≤ 7) {O : CellTallies nD τ sig Unit} (hO : Above 0 O) (Q : PUnit → sProp 𝕄) :
    iprop(records m K ∗ levAts L lv ∗ sfl c j ∗ Owes c O)
      ⊢ iprop((iprop(anyAt c (sbM j) ∗ semVal (sendCell j c) 0 ∗ Owes c O) -∗ Q ⟨⟩) -∗ WP c (waitS j) Q) := by
  unfold sfl waitS Prog.lift Owes
  iintro ⟨#HR, #Hlev, ⟨Hc, Hat⟩, ⟨%W, HO⟩⟩ Hk
  ihave #HI := (inv_send m K c j h1 h7) $$ HR
  iapply (Rounds.wp_wait_rest_token 𝒱₀ ER (rd m) (c : Thread nD τ) none (κ := K (c, ⟨j, by omega⟩))
      (wpE_waitDma2_eq 𝒱₀ (c : Thread nD τ) none Set.univ) (Set.mem_univ _) () (O := O) (W := W) (R := 0) (m := 0) (T := ∅)
      (by rw [Nat.zero_add, expect_send m c h1 h7])) $$ [Hc HO Hat]
  · isplitr; · iexact HI
    isplitl [Hc]; · iexact Hc
    isplitl [HO]; · iexact HO
    isplitr; · iapply (mayWait c _ (lv_send j c) hO); iexact Hlev
    iexact Hat
  iintro ⟨HO, Hat, -, Hp⟩
  ihave Hp := (Entails.of_eq (rest_send m c h1 h7)) $$ Hp
  imod (Rounds.cell_close ER (rd m) (Set.mem_univ (K (c, ⟨j, by omega⟩))) (fun h => h) (R := 0 + 1) (duties_later m (sendCell j c))) $$ [Hat] with Hz
  · isplitr; · iexact HI
    iexact Hat
  rw [wp_ret]; imodintro
  iapply Hk
  unfold sendPay
  isplitl [Hp]; · iexact Hp
  isplitl [Hz]; · iexact Hz
  iexists _; iexact HO

theorem wp_preS (c : Dev nD) {j : ℕ} (h1 : 1 ≤ j) (h7 : j ≤ 7) {O : CellTallies nD τ sig Unit} (hO : Above 0 O) (Q : PUnit → sProp 𝕄) :
    iprop(records m K ∗ levAts L lv ∗ ssl c j ∗ bigSep (Finset.Icc 1 (j - 3)) (fun i => semVal (sendCell i c) 0) ∗ Owes c O)
      ⊢ iprop((iprop(anyAt c (sbM j) ∗ bigSep (Finset.Icc 1 (j + 1 - 3)) (fun i => semVal (sendCell i c) 0) ∗ Owes c O) -∗ Q ⟨⟩)
          -∗ WP c (preS j) Q) := by
  unfold ssl preS
  by_cases hj : 3 ≤ j
  · rw [if_pos hj, if_neg (by omega), show j + 1 - 3 = (j - 3) + 1 by omega, icc_grow (by omega), show j - 3 + 1 = j - 2 by omega]
    iintro ⟨#HR, #Hlev, Hf, Hd, HO⟩ Hk
    iapply (wp_waitS m K c (j := j - 2) (by omega) (by omega) hO) $$ [Hf HO]
    · isplitr; · iexact HR
      isplitr; · iexact Hlev
      isplitl [Hf] <;> iassumption
    iintro ⟨Hb, Hv, HO⟩
    iapply Hk
    rw [sbM_congr (show j % 2 = (j - 2) % 2 by omega)]
    isplitl [Hb]; · iexact Hb
    isplitl [Hv Hd]
    · isplitl [Hv] <;> iassumption
    iexact HO
  · rw [if_neg hj, if_pos (by omega), show j + 1 - 3 = j - 3 by omega]
    unfold WP
    rw [Prog.pure_eq_ret, wp_ret]
    iintro ⟨-, -, H⟩ Hk
    imodintro
    iapply Hk; iexact H

omit [FloatOps F] in
theorem sb_setOn (b : ℕ) : (sbW.view.setOn (rTwo b).toLoadRect.set) ⊆ (sbM b).view.set := by
  rw [set_sb]
  exact le_of_eq ((View.set_slice sbW.view (rTwo b)).symm.trans (View.set_slice_whole _ _))
omit [FloatOps F] in
theorem sb_access (b : ℕ) : (sbW.access (rTwo b)).setOn Finset.univ ⊆ (sbM b).view.set := by
  rw [set_sb]
  exact le_of_eq (View.set_slice_whole _ _)
omit [FloatOps F] in
theorem rb_setOn (b : ℕ) : (rbW.view.setOn (rRb b).toLoadRect.set) ⊆ (rbM b).view.set := by
  rw [set_rb]
  exact le_of_eq ((View.set_slice rbW.view (rRb b)).symm.trans (View.set_slice_whole _ _))

/-- The transfer of phase `j`, addressed to the device `j` places on. -/
theorem wp_remote (c n : Dev nD) {j : ℕ} (hn : n = peer c j) (h1 : 1 ≤ j) (h7 : j ≤ 7)
    {hsc : (rbM j : Memref sig (Dev.tc n : Thread nD τ).2.kind .vmem S1024x512 .bf16).view.ref.isScScratch = false}
    {hsrc : (sbM j).view.WordExact} {hdst : (rbM j : Memref sig (Dev.tc n : Thread nD τ).2.kind .vmem S1024x512 .bf16).view.WordExact}
    {hsem : DmaTarget.Typed .vmem (.dma (recvSem j)) (.remote (Dev.tc n : Thread nD τ) (rbM j) (.dma (sendSem j)) hsc)}
    {α : Type} {Q : α → sProp 𝕄} {k : PUnit → KProg F α}
    (fs : Buf (Elt F) ((sbM j).view.loc (c : Thread nD τ))) (hfs : (sbM j).view.read (Elt F) fs = sendv m c j)
    (fn : Buf (Elt F) ((rbM j).view.loc (peer c j : Thread nD τ))) {O : CellTallies nD τ sig Unit} (W : Waits sig Unit) :
    iprop(cellInv ER (rd m) (K (c, ⟨j, by omega⟩)) (sendCell j c) ∗ cellInv ER (rd m) (K (peer c j, ⟨j + 7, by omega⟩)) (recvCell j (peer c j))
        ∗ pts c (sbM j) fs ∗ pts (peer c j) (rbM j) fn
        ∗ owes (c : Thread nD τ) (O + tallyAt (recvCell j (peer c j)) () N) W
        ∗ dutyTok ER (sendCell j c) 0 0 ∗ reached ER (sendCell j c) 0
        ∗ dutyTok ER (recvCell j (peer c j)) 0 0 ∗ reached ER (recvCell j (peer c j)) 0)
      ⊢ iprop(((cred (tallyAt (sendCell j c) () N) ∗ owes (c : Thread nD τ) O W) -∗ WP c (k ⟨⟩) Q)
          -∗ WP c (.op (.enqueueDma (sbM j) (.remote (Dev.tc n : Thread nD τ) (rbM j) (.dma (sendSem j)) hsc) (.dma (recvSem j)) hsrc hdst hsem) k) Q) := by
  subst hn
  exact Rounds.wp_send_pointsTo 𝒱₀ ER (rd m) (c : Thread nD τ) none (κ₁ := K (c, ⟨j, by omega⟩)) (κ₂ := K (peer c j, ⟨j + 7, by omega⟩))
    (r₁ := 0) (r₂ := 0) (d₁ := 0) (d₂ := 0) (fd := fn)
    (by rw [duties_send m c h1 h7]; exact Finset.mem_singleton_self _) (by rw [duties_recv m _ h1 h7]; exact Finset.mem_singleton_self _)
    () () N (show (rbM j).view.amount (.dma (recvSem j)) = N from N_rb j) (amount_send m c j 0) (amount_recv m (peer c j) j 0) O rfl (W := W)
    (by rw [payload_send m c h7]; unfold sendPay anyAt; iintro H; iexists _; iexact H)
    (by
      rw [payload_recv m _ h7]; unfold recvPay holds; rw [peer_forth c (by omega)]
      iintro H; iexists _
      isplitl [H]; · iexact H
      ipureintro
      exact (View.read_write_univ _ _).trans hfs)

theorem wp_send (c : Dev nD) {j : ℕ} (h1 : 1 ≤ j) (h7 : j ≤ 7) (Q : PUnit → sProp 𝕄) :
    iprop(records m K ∗ levAts L lv ∗ Sends c j ∗ Owes c (Os c (8 - j)))
      ⊢ iprop((iprop(Sends c (j + 1) ∗ Owes c (Os c (7 - j))) -∗ Q ⟨⟩) -∗ WP c (send c j (accv m c j 8)) Q) := by
  unfold Sends
  rw [icc_peel h7]
  iintro ⟨#HR, #Hlev, ⟨Hs, Hs', ⟨Hres, Hrest⟩, Hd⟩, HO⟩ Hk
  simp only [send, wp_bind]
  iapply (wp_preS m K c h1 h7 ((above_Os c (n := 8 - j) (by omega)).mono (by omega))) $$ [Hs Hd HO]
  · isplitr; · iexact HR
    isplitr; · iexact Hlev
    isplitl [Hs]; · iexact Hs
    isplitl [Hd] <;> iassumption
  unfold Owes SendRes barPay anyAt
  iintro ⟨⟨%f, Hs⟩, Hd, ⟨%W, HO⟩⟩
  icases Hres with ⟨⟨Ht, Ht', Hat⟩, ⟨%fn, Hn⟩, #Hrn⟩
  simp only [Prog.lift]
  iapply (wp_load 𝒱₀ (c : Thread nD τ) none Set.univ (m := sbW) (S := (sbM j).view.set) (sb_setOn j)) $$ Hs; iintro Hs
  rw [wp_ret]; imodintro
  iapply (wp_store 𝒱₀ (c : Thread nD τ) none Set.univ (m := sbW) (r := rTwo j) (Mk := Finset.univ) (S := (sbM j).view.set) (sb_access j)) $$ Hs; iintro Hs
  rw [wp_ret]; imodintro
  rw [show 8 - j = (7 - j) + 1 by omega]
  simp only [Os]
  rw [show 7 - (7 - j) = j by omega]
  iapply (wp_remote m K c (sendDev c j) (sendDev_eq c h1 h7) h1 h7 _ (read_sb_store j f (sendVal (accv m c j 8))) fn W) $$ [Hs Hn HO Ht Ht']
  · isplitr; · iapply (inv_send m K c j h1 h7); iexact HR
    isplitr; · iapply (inv_recv m K (peer c j) j h1 h7); iexact HR
    isplitl [Hs]; · iexact Hs
    isplitl [Hn]; · iexact Hn
    isplitl [HO]; · iexact HO
    isplitl [Ht]; · iexact Ht
    isplitr; · iapply (reached_send m K c j h1 h7); iexact HR
    isplitl [Ht']; · iexact Ht'
    iexact Hrn
  iintro ⟨Hc, HO⟩
  unfold WP
  rw [wp_ret]; imodintro
  iapply Hk
  isplitr [HO]
  · isplitl [Hs']; · iexact Hs'
    isplitl [Hc Hat]
    · unfold ssl sfl
      rw [if_neg (by omega), show j + 1 + 1 - 2 = j by omega]
      isplitl [Hc] <;> iassumption
    isplitl [Hrest] <;> iassumption
  iexists W; iexact HO

/-! ## Draining -/

def DrainRes (c : Dev nD) (j : ℕ) : sProp 𝕄 := iprop(cred (tallyAt (recvCell j c) () N) ∗ atPos ER (recvCell j c) 0 ∅ 0)
/-- Before block `j` is drained. -/
def Drains (c : Dev nD) (j : ℕ) : sProp 𝕄 :=
  iprop(bigSep (Finset.Icc j 7) (DrainRes c) ∗ bigSep (Finset.Icc 1 (j - 1)) (fun i => iprop(anyAt c (rbM i) ∗ semVal (recvCell i c) 0)))

theorem wp_drain (c : Dev nD) {j : ℕ} (h1 : 1 ≤ j) (h7 : j ≤ 7) {O : CellTallies nD τ sig Unit} (hO : Above (1 + j) O) (Q : PUnit → sProp 𝕄) :
    iprop(records m K ∗ levAts L lv ∗ Drains c j ∗ Outs m c j ∗ Owes c O)
      ⊢ iprop((iprop(Drains c (j + 1) ∗ Outs m c (j + 1) ∗ Owes c O) -∗ Q ⟨⟩) -∗ WP c (drain c j) Q) := by
  unfold Drains
  rw [icc_peel h7, show j + 1 - 1 = (j - 1) + 1 by omega, icc_grow (a := 1) (b := j - 1) (by omega), show j - 1 + 1 = j by omega]
  unfold Owes
  iintro ⟨#HR, #Hlev, ⟨⟨Hres, Hrest⟩, Hd⟩, Ho, ⟨%W, HO⟩⟩ Hk
  unfold DrainRes
  icases Hres with ⟨Hc, Hat⟩
  ihave #HI := (inv_recv m K c j h1 h7) $$ HR
  simp only [drain, waitR, Prog.lift, Prog.bind_op, Prog.bind_ret]
  iapply (Rounds.wp_wait_rest_token 𝒱₀ ER (rd m) (c : Thread nD τ) none (κ := K (c, ⟨j + 7, by omega⟩))
      (wpE_waitDma2_eq 𝒱₀ (c : Thread nD τ) none Set.univ) (Set.mem_univ _) () (O := O) (W := W) (R := 0) (m := 0) (T := ∅)
      (by rw [Nat.zero_add, expect_recv m c h1 h7])) $$ [Hc HO Hat]
  · isplitr; · iexact HI
    isplitl [Hc]; · iexact Hc
    isplitl [HO]; · iexact HO
    isplitr; · iapply (mayWait c _ (le_of_eq (lv_recv j h7 c)) hO); iexact Hlev
    iexact Hat
  iintro ⟨HO, Hat, -, Hp⟩
  ihave Hp := (Entails.of_eq (rest_recv m c h1 h7)) $$ Hp
  imod (Rounds.cell_close ER (rd m) (Set.mem_univ (K (c, ⟨j + 7, by omega⟩))) (fun h => h) (R := 0 + 1) (duties_later m (recvCell j c))) $$ [Hat] with Hz
  · isplitr; · iexact HI
    iexact Hat
  unfold recvPay holds
  icases Hp with ⟨%g, Hs, %hg⟩
  iapply (wp_load 𝒱₀ (c : Thread nD τ) none Set.univ (m := rbW) (S := (rbM j).view.set) (rb_setOn j)) $$ Hs; iintro Hs
  have hv : down (k0_pay50 (k0_pay49 (rbW.view.readAt (Elt F) (rRb j).toLoadRect g))) = outv m c j := by
    rw [pay50_eq]
    obtain ⟨b, rfl⟩ : ∃ b, j = b + 1 := ⟨j - 1, by omega⟩
    exact congrArg (fun a => extf .f32 a bitsLt_bf16_f32) hg
  iapply (wp_emit m c h7 _ hv (hO.mono (by omega))) $$ [Ho HO]
  · isplitr; · iexact Hlev
    isplitl [Ho]; · iexact Ho
    unfold Owes; iexists _; iexact HO
  iintro ⟨Ho, HO⟩
  iapply Hk
  isplitr [Ho HO]
  · isplitl [Hrest]; · iexact Hrest
    isplitl [Hs Hz]
    · isplitl [Hs]; · (unfold anyAt; iexists g; iexact Hs)
      iexact Hz
    iexact Hd
  isplitl [Ho]; · iexact Ho
  unfold Owes; iexact HO

/-! ## The phases -/

/-- Phases `j … 7`, from the second on. -/
theorem wp_phases (c : Dev nD) (Q : PUnit → sProp 𝕄) : ∀ (n j : ℕ), 2 ≤ j → j + n = 8 →
    iprop(records m K ∗ Core m c (24 + 8 * (j - 1)) 8192 (Os c (8 - j)) ∗ Sends c j ∗ Drains c (j - 1) ∗ Outs m c (j - 1))
      ⊢ iprop((iprop(Core m c 80 8192 0 ∗ Sends c 8 ∗ Drains c 7 ∗ Outs m c 7) -∗ Q ⟨⟩) -∗ WP c (phases c n j) Q)
  | 0, j, h2, h8 => by
    obtain rfl : j = 8 := by omega
    simp only [phases, Prog.pure_eq_ret, wp_ret]
    iintro ⟨-, H⟩ Hk; imodintro; iapply Hk; iexact H
  | n + 1, j, h2, h8 => by
    simp only [phases, drainPrev, wp_bind]
    rw [if_pos h2]
    iintro ⟨#HR, H, Hs, Hd, Ho⟩ Hk
    iapply (wp_phase m c (j := j) (by omega) (by omega) ((above_Os c (n := 8 - j) (by omega)).mono (by omega)) 8 0 (by omega)) $$ H
    unfold Core
    iintro ⟨#Hlev, Hst, Hx, HO⟩
    iapply (wp_send m K c (j := j) (by omega) (by omega)) $$ [Hs HO]
    · isplitr; · iexact HR
      isplitr; · iexact Hlev
      isplitl [Hs] <;> iassumption
    iintro ⟨Hs, HO⟩
    iapply (wp_drain m K c (j := j - 1) (by omega) (by omega) ((above_Os c (n := 7 - j) (by omega)).mono (by omega))) $$ [Hd Ho HO]
    · isplitr; · iexact HR
      isplitr; · iexact Hlev
      isplitl [Hd]; · iexact Hd
      isplitl [Ho] <;> iassumption
    iintro ⟨Hd, Ho, HO⟩
    have ih := wp_phases c Q n (j + 1) (by omega) (by omega)
    unfold Core at ih
    rw [show 24 + 8 * (j + 1 - 1) = 24 + 8 * (j - 1) + (0 + 8) by omega, show 8 - (j + 1) = 7 - j by omega, show j + 1 - 1 = j - 1 + 1 by omega] at ih
    iapply ih $$ [Hst Hx HO Hs Hd Ho]
    · isplitr; · iexact HR
      isplitl [Hst Hx HO]
      · isplitr; · iexact Hlev
        isplitl [Hst]; · iexact Hst
        isplitl [Hx] <;> iassumption
      isplitl [Hs]; · iexact Hs
      isplitl [Hd] <;> iassumption
    iexact Hk

/-! ## The whole run -/

/-- What the body starts from; -/
def Pre (c : Dev nD) : sProp 𝕄 :=
  iprop(records m K ∗ levAts L lv ∗ Owes c (Ob c 7)
    ∗ (bigSep (Finset.Icc 1 7) (SigRes c) ∗ cred (tallyAt (barCell c) () 7) ∗ atPos ER (barCell c) 0 ∅ 0)
    ∗ (inp m c ∗ free c 0 ∗ free c 1 ∗ free c 2 ∗ free c 3 ∗ free c 4 ∗ free c 5)
    ∗ (∃ f : FVec F S1024x8192 .bf16, (((c : Thread nD τ).loc cc0_scratch0) ↦{fullShare} f))
    ∗ (ofree c 0 ∗ ofree c 1 ∗ bigSep (Finset.Icc 0 7) (fun i => anyAt c (oBlk c i)))
    ∗ (anyAt c (sbM 1) ∗ anyAt c (sbM 2)
      ∗ bigSep (Finset.Icc 1 7) (fun j => iprop(dutyTok ER (sendCell j c) 0 0 ∗ dutyTok ER (recvCell j (peer c j)) 0 0 ∗ atPos ER (sendCell j c) 0 ∅ 0)))
    ∗ bigSep (Finset.Icc 1 7) (DrainRes c))

/-- and what it leaves: the result's blocks holding what they should, everything else back. -/
def Post (c : Dev nD) : sProp 𝕄 :=
  iprop(Owes c 0 ∗ semVal (barCell c) 0
    ∗ (inp m c ∗ free c 0 ∗ free c 1 ∗ free c 2 ∗ free c 3 ∗ free c 4 ∗ free c 5)
    ∗ (∃ f : FVec F S1024x8192 .bf16, (((c : Thread nD τ).loc cc0_scratch0) ↦{fullShare} f))
    ∗ (ofree c 0 ∗ ofree c 1 ∗ bigSep (Finset.range 8) (fun i => holds c (oBlk c i) (outv m c i)))
    ∗ (anyAt c (sbM 0) ∗ anyAt c (sbM 1) ∗ bigSep (Finset.Icc 1 7) (fun i => semVal (sendCell i c) 0))
    ∗ bigSep (Finset.Icc 1 7) (fun i => iprop(anyAt c (rbM i) ∗ semVal (recvCell i c) 0)))

theorem fl_last (c : Dev nD) {t t' : ℕ} (h : 80 ≤ t) (ht : t % 6 = t' % 6) : fl m c t = free c t' := by
  unfold fl; rw [if_neg (by omega), free_congr c ht]

set_option maxHeartbeats 1000000 in
theorem wp_body (c : Dev nD) (Q : PUnit → sProp 𝕄) :
    Pre m K c ⊢ iprop((Post m c -∗ Q ⟨⟩) -∗ WP c body Q) := by
  unfold Pre
  iintro ⟨#HR, #Hlev, HO, ⟨Hsig, HcB, HatB⟩, Hst, Hx, ⟨Ho0, Ho1, Hblk⟩, ⟨Hs1, Hs2, Hsr⟩, Hdr⟩ Hk
  unfold body
  simp only [Prog.lift, Prog.bind_op, Prog.bind_ret, wp_deviceId]
  simp only [wp_bind]
  iapply (wp_signals m K c _ 7 le_rfl) $$ [Hsig HO]
  · isplitr; · iexact HR
    isplitl [Hsig] <;> iassumption
  iintro HO
  iapply (wp_barrier m K c) $$ [HcB HatB HO]
  · isplitr; · iexact HR
    isplitr; · iexact Hlev
    isplitl [HcB]; · iexact HcB
    isplitl [HatB] <;> iassumption
  iintro ⟨HO, HzB, Hpay⟩
  iapply (wp_starts m c) $$ Hst
  iintro Hst
  have hA : Above 0 (Os c 7) := (above_Os c le_rfl).mono (by omega)
  iapply (wp_phase0 m c hA 8 0 le_rfl) $$ [Hst Hx HO]
  · unfold Core Xb
    isplitr; · iexact Hlev
    isplitl [Hst]; · iexact Hst
    isplitl [Hx]
    · icases Hx with ⟨%f, Hx⟩
      iexists f
      isplitl [Hx]; · iexact Hx
      ipureintro; exact fun i hi => absurd hi (Nat.not_lt_zero _)
    iexact HO
  unfold Core
  iintro ⟨-, Hst, Hx, HO⟩
  iapply (wp_emit m c (b := 0) (by omega) _ rfl hA) $$ [Ho0 Ho1 Hblk HO]
  · isplitr; · iexact Hlev
    isplitr [HO]
    · unfold Outs
      rw [osl_lt m c (b := 0) (by omega), osl_lt m c (b := 0 + 1) (by omega)]
      isplitl [Ho0]; · iexact Ho0
      isplitl [Ho1]; · iexact Ho1
      isplitl [Hblk]; · iexact Hblk
      rw [show 0 - 2 = 0 from rfl, Finset.range_zero, BI.bigSep_empty]; iempintro
    iexact HO
  iintro ⟨Ho, HO⟩
  -- the first phase sends and drains nothing
  rw [show phases c 7 1 = (do let a ← phase c 1 8 0 acc0; send c 1 a; pure ⟨⟩; phases c 6 2 : KProg F PUnit) from rfl]
  simp only [wp_bind]
  iapply (wp_phase m c (j := 1) le_rfl (by omega) hA 8 0 le_rfl) $$ [Hst Hx HO]
  · unfold Core
    isplitr; · iexact Hlev
    isplitl [Hst]; · iexact Hst
    isplitl [Hx] <;> iassumption
  unfold Core
  iintro ⟨-, Hst, Hx, HO⟩
  iapply (wp_send m K c (j := 1) le_rfl (by omega)) $$ [Hs1 Hs2 Hsr Hpay HO]
  · isplitr; · iexact HR
    isplitr; · iexact Hlev
    isplitr [HO]
    · unfold Sends
      rw [ssl_lt c (j := 1) (by omega), ssl_lt c (j := 1 + 1) (by omega)]
      isplitl [Hs1]; · iexact Hs1
      isplitl [Hs2]; · iexact Hs2
      isplitl [Hsr Hpay]
      · iapply (Entails.of_eq (sendRes_eq c).symm)
        isplitl [Hsr] <;> iassumption
      rw [icc_none (by omega)]; iempintro
    iexact HO
  iintro ⟨Hs, HO⟩
  iapply (wp_phases m K c _ 6 2 le_rfl rfl) $$ [Hst Hx HO Hs Hdr Ho]
  · isplitr; · iexact HR
    isplitl [Hst Hx HO]
    · unfold Core
      isplitr; · iexact Hlev
      isplitl [Hst]; · iexact Hst
      isplitl [Hx] <;> iassumption
    isplitl [Hs]; · iexact Hs
    isplitl [Hdr]
    · unfold Drains
      isplitl [Hdr]; · iexact Hdr
      rw [icc_none (by omega)]; iempintro
    iexact Ho
  unfold Core
  iintro ⟨⟨-, Hst, Hx, HO⟩, Hs, Hd, Ho⟩
  iapply (wp_drain m K c (j := 7) (by omega) le_rfl (above_zero _)) $$ [Hd Ho HO]
  · isplitr; · iexact HR
    isplitr; · iexact Hlev
    isplitl [Hd]; · iexact Hd
    isplitl [Ho] <;> iassumption
  unfold Outs Drains Sends
  iintro ⟨⟨-, Hd⟩, ⟨Ho6, Ho7, -, Hdone⟩, HO⟩
  icases Hs with ⟨Hs6, Hs7, -, Hsd⟩
  iapply (wp_waitO m c (b := 8) (by omega) (above_zero _)) $$ [Ho6 HO]
  · isplitr; · iexact Hlev
    isplitl [Ho6]; · (iapply (Entails.of_eq (osl_ge m c (b := 7 + 1) (b' := 6) rfl)); iexact Ho6)
    iexact HO
  iintro ⟨Hb6, Ho6, HO⟩
  iapply (wp_waitO m c (b := 9) (by omega) (above_zero _)) $$ [Ho7 HO]
  · isplitr; · iexact Hlev
    isplitl [Ho7]; · (iapply (Entails.of_eq (osl_ge m c (b := 7 + 1 + 1) (b' := 7) rfl)); iexact Ho7)
    iexact HO
  iintro ⟨Hb7, Ho7, HO⟩
  iapply (wp_waitS m K c (j := 6) (by omega) (by omega) (above_zero _)) $$ [Hs6 HO]
  · isplitr; · iexact HR
    isplitr; · iexact Hlev
    isplitl [Hs6]; · (iapply (Entails.of_eq (ssl_ge c (j := 8) (j' := 6) rfl (by omega))); iexact Hs6)
    iexact HO
  iintro ⟨Hs6, Hz6, HO⟩
  iapply (wp_waitS m K c (j := 7) (by omega) (by omega) (above_zero _)) $$ [Hs7 HO]
  · isplitr; · iexact HR
    isplitr; · iexact Hlev
    isplitl [Hs7]; · (iapply (Entails.of_eq (ssl_ge c (j := 8 + 1) (j' := 7) rfl (by omega))); iexact Hs7)
    iexact HO
  iintro ⟨Hs7, Hz7, HO⟩
  iapply Hk
  unfold Post Stg Xb
  isplitl [HO]; · iexact HO
  isplitl [HzB]; · iexact HzB
  isplitl [Hst]
  · rw [fl_last m c (t := 80) (t' := 2) (by omega) rfl, fl_last m c (t := 80 + 1) (t' := 3) (by omega) rfl, fl_last m c (t := 80 + 2) (t' := 4) (by omega) rfl,
      fl_last m c (t := 80 + 3) (t' := 5) (by omega) rfl, fl_last m c (t := 80 + 4) (t' := 0) (by omega) rfl, fl_last m c (t := 80 + 5) (t' := 1) (by omega) rfl]
    icases Hst with ⟨Hi, H2, H3, H4, H5, H0, H1⟩
    isplitl [Hi]; · iexact Hi
    isplitl [H0]; · iexact H0
    isplitl [H1]; · iexact H1
    isplitl [H2]; · iexact H2
    isplitl [H3]; · iexact H3
    isplitl [H4] <;> iassumption
  isplitl [Hx]
  · icases Hx with ⟨%f, Hx, -⟩
    iexists f; iexact Hx
  isplitl [Ho6 Ho7 Hb6 Hb7 Hdone]
  · rw [ofree_congr c (b := 0) (b' := 8) rfl, ofree_congr c (b := 1) (b' := 9) rfl]
    isplitl [Ho6]; · iexact Ho6
    isplitl [Ho7]; · iexact Ho7
    rw [range_grow 7, range_grow 6]
    isplitl [Hb7]; · iexact Hb7
    isplitl [Hb6] <;> iassumption
  isplitl [Hs6 Hs7 Hz6 Hz7 Hsd]
  · rw [sbM_congr (t := 0) (t' := 6) rfl, sbM_congr (t := 1) (t' := 7) rfl]
    isplitl [Hs6]; · iexact Hs6
    isplitl [Hs7]; · iexact Hs7
    rw [icc_grow (a := 1) (b := 6) (by omega), icc_grow (a := 1) (b := 5) (by omega)]
    isplitl [Hz7]; · iexact Hz7
    isplitl [Hz6] <;> iassumption
  iexact Hd

end Cert.KernelProof

end
-- ==== Proof.Launch.lean ====
/-
# The launch: the cells minted, their tokens dealt, the credit for what is owed

Every device's barrier, send and receive cells get their invariants at once; each duty's token goes to the
device that pays it; and a device's own cells start with credit for what the others owe them.
-/
module

public import proofs.«01_k».proof.Proof.Comm
public import Idealize.ShloMosaic.Lib.Ring

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Small families, listed -/

omit [FloatOps F] in
theorem sep_right (P Q R : sProp 𝕄) : iprop((P ∗ Q) ∗ R) = iprop(P ∗ Q ∗ R) :=
  BI.equiv_iff.mp ⟨show iprop((P ∗ Q) ∗ R) ⊢ iprop(P ∗ Q ∗ R) from Laws.sep_assoc.1, show iprop(P ∗ Q ∗ R) ⊢ iprop((P ∗ Q) ∗ R) from Laws.sep_assoc.2⟩
omit [FloatOps F] in
theorem sep_turn (P Q : sProp 𝕄) : iprop(P ∗ Q) = iprop(Q ∗ P) :=
  BI.equiv_iff.mp ⟨show iprop(P ∗ Q) ⊢ iprop(Q ∗ P) from Laws.sep_comm.1, show iprop(Q ∗ P) ⊢ iprop(P ∗ Q) from Laws.sep_comm.2⟩
omit [FloatOps F] in
theorem sep_past (P Q R : sProp 𝕄) : iprop(P ∗ Q ∗ R) = iprop(Q ∗ P ∗ R) := by
  rw [← sep_right, sep_turn P Q, sep_right]

omit [FloatOps F] in
theorem icc17 (Φ : ℕ → sProp 𝕄) : bigSep (Finset.Icc 1 7) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
omit [FloatOps F] in
theorem fin7 (Φ : ℕ → sProp 𝕄) : bigSep Finset.univ (fun i : Fin 7 => Φ (i.val + 1)) = bigSep (Finset.Icc 1 7) Φ := by
  rw [icc17]; exact bigSep_univ_eq_bigSepL [0, 1, 2, 3, 4, 5, 6] (by decide) (by decide) _
omit [FloatOps F] in
theorem icc_flip (Φ : ℕ → sProp 𝕄) : bigSep (Finset.Icc 1 7) (fun k => Φ (8 - k)) = bigSep (Finset.Icc 1 7) Φ := by
  rw [icc17, icc17]
  show iprop(Φ 7 ∗ Φ 6 ∗ Φ 5 ∗ Φ 4 ∗ Φ 3 ∗ Φ 2 ∗ Φ 1) = _
  simp only [sep_right, sep_turn, sep_past]
omit [FloatOps F] in
/-- Over a device's cells: its barrier, its send cells, its receive cells. -/
theorem cells15 (c : Dev nD) (Ψ : GSem nD τ sig → sProp 𝕄) :
    bigSep Finset.univ (fun k : Fin 15 => Ψ (kcell (c, k)))
      = iprop(Ψ (barCell c) ∗ bigSep (Finset.Icc 1 7) (fun j => Ψ (sendCell j c)) ∗ bigSep (Finset.Icc 1 7) (fun j => Ψ (recvCell j c))) := by
  rw [icc17, icc17, bigSep_univ_eq_bigSepL [0, 1, 2, 3, 4, 5, 6, 7, 8, 9, 10, 11, 12, 13, 14] (by decide) (by decide)]
  show iprop(Ψ (barCell c) ∗ Ψ (sendCell 1 c) ∗ Ψ (sendCell 2 c) ∗ Ψ (sendCell 3 c) ∗ Ψ (sendCell 4 c) ∗ Ψ (sendCell 5 c) ∗ Ψ (sendCell 6 c) ∗ Ψ (sendCell 7 c)
    ∗ Ψ (recvCell 1 c) ∗ Ψ (recvCell 2 c) ∗ Ψ (recvCell 3 c) ∗ Ψ (recvCell 4 c) ∗ Ψ (recvCell 5 c) ∗ Ψ (recvCell 6 c) ∗ Ψ (recvCell 7 c)) = _
  simp only [sep_right]

/-! ## The semaphores -/

abbrev osem : Fin 24 → SemLoc sig := fun k => .dma k
theorem ownSemFacts : Pipeline.OwnSemFacts cfg0.spec osem := by decide

/-- The counters no cell of the protocol takes. -/
def plain (c : Dev nD) : sProp 𝕄 :=
  iprop((semVal (stCell 0 c) 0 ∗ semVal (stCell 1 c) 0 ∗ semVal (stCell 2 c) 0 ∗ semVal (stCell 3 c) 0 ∗ semVal (stCell 4 c) 0 ∗ semVal (stCell 5 c) 0)
    ∗ (semVal (outCell 0 c) 0 ∗ semVal (outCell 1 c) 0) ∗ semVal (sendCell 0 c) 0 ∗ semVal (recvCell 0 c) 0)

abbrev Own (c : Dev nD) : sProp 𝕄 := Pipeline.ownSems0 (Ix := Unit) (Name := ℕ) (U := UU) (Lvl := ℕ) (Val := Elt F) (τ := τ) osem c

omit [FloatOps F] in
theorem sort24 (a0 a1 a2 a3 a4 a5 a6 a7 a8 a9 a10 a11 a12 a13 a14 a15 a16 a17 a18 a19 a20 a21 a22 a23 : sProp 𝕄) :
    iprop(a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ a20 ∗ a21 ∗ a22 ∗ a23)
      = iprop(((a0 ∗ a1 ∗ a2 ∗ a3 ∗ a4 ∗ a5) ∗ (a6 ∗ a7) ∗ a8 ∗ a16) ∗ (a9 ∗ a10 ∗ a11 ∗ a12 ∗ a13 ∗ a14 ∗ a15) ∗ a17 ∗ a18 ∗ a19 ∗ a20 ∗ a21 ∗ a22 ∗ a23) := by
  simp only [sep_right, sep_turn, sep_past]

omit [FloatOps F] in
theorem own_eq (c : Dev nD) :
    (Own c : sProp 𝕄) = iprop(plain c ∗ bigSep (Finset.Icc 1 7) (fun j => semVal (sendCell j c) 0) ∗ bigSep (Finset.Icc 1 7) (fun j => semVal (recvCell j c) 0)) := by
  unfold Own plain
  rw [Pipeline.ownSems0_eq_of_list c osem [0, 1, 2, 3, 4, 5, 6, 7, 8, 9, 10, 11, 12, 13, 14, 15, 16, 17, 18, 19, 20, 21, 22, 23] (by decide) (by decide), icc17, icc17]
  show iprop(semVal (stCell 0 c) 0 ∗ semVal (stCell 1 c) 0 ∗ semVal (stCell 2 c) 0 ∗ semVal (stCell 3 c) 0 ∗ semVal (stCell 4 c) 0 ∗ semVal (stCell 5 c) 0
    ∗ semVal (outCell 0 c) 0 ∗ semVal (outCell 1 c) 0
    ∗ semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0 ∗ semVal (sendCell 7 c) 0
    ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0 ∗ semVal (recvCell 7 c) 0) = _
  exact sort24 _ _ _ _ _ _ _ _ _ _ _ _ _ _ _ _ _ _ _ _ _ _ _ _

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    iprop(Own c ∗ unscopedSems0 c) ⊢ (iprop(plain c ∗ bigSep Finset.univ fun k : Fin 15 => semVal (kcell (c, k)) 0) : sProp 𝕄) := by
  rw [own_eq, unscoped_eq, cells15 c fun g => semVal g 0]
  iintro ⟨⟨HP, HS, HR⟩, HB⟩
  isplitl [HP]; · iexact HP
  isplitl [HB]; · iexact HB
  isplitl [HS] <;> iassumption

/-! ## Minting -/

theorem csem_injective : Function.Injective csem := by decide
theorem kcell_injective : Function.Injective (kcell : Dev nD × Fin 15 → GSem nD τ sig) := by
  rintro ⟨c, k⟩ ⟨c', k'⟩ h
  have h1 : c = c' := congrArg (fun g : GSem nD τ sig => g.1.1) h
  subst h1
  exact congrArg (Prod.mk c) (csem_injective (congrArg Prod.snd h))
def allCells : Finset (GSem nD τ sig) := Finset.univ.map ⟨kcell, kcell_injective⟩

/-- A duty of a device's own cells: of its barrier (0), of a send cell (1), of a receive cell (2). -/
def dutyOf (x : Fin 3 × Fin 7) : SemLoc sig × ℕ :=
  if x.1 = 0 then (.reg barS, x.2.val + 1) else if x.1 = 1 then (.dma (sendSem (x.2.val + 1)), 0) else (.dma (recvSem (x.2.val + 1)), 0)
theorem dutyOf_injective : Function.Injective dutyOf := by decide
def tokOf (x : Dev nD × Fin 3 × Fin 7) : GSem nD τ sig × ℕ × ℕ := (((x.1 : Thread nD τ), (dutyOf x.2).1), 0, (dutyOf x.2).2)
theorem tokOf_injective : Function.Injective tokOf := by
  rintro ⟨c, k⟩ ⟨c', k'⟩ h
  have h1 : c = c' := congrArg (fun g : GSem nD τ sig × ℕ × ℕ => g.1.1.1) h
  subst h1
  exact congrArg (Prod.mk c) (dutyOf_injective (Prod.ext (congrArg (fun g : GSem nD τ sig × ℕ × ℕ => g.1.2) h) (congrArg (fun g : GSem nD τ sig × ℕ × ℕ => g.2.2) h)))
def allToks : Finset (GSem nD τ sig × ℕ × ℕ) := Finset.univ.map ⟨tokOf, tokOf_injective⟩

def u₀ : UU := (initOf (Pipeline.cells cfgs cellOf_inj) (Pipeline.launchToks cfgs cellOf_inj), (initOf allCells allToks, 1))

/-- The duty tokens of device `c`'s own cells. -/
def toks (c : Dev nD) : sProp 𝕄 :=
  iprop(bigSep (Finset.Icc 1 7) (fun j => dutyTok ER (barCell c) 0 j) ∗ bigSep (Finset.Icc 1 7) (fun j => dutyTok ER (sendCell j c) 0 0)
    ∗ bigSep (Finset.Icc 1 7) (fun j => dutyTok ER (recvCell j c) 0 0))

def G (c : Dev nD) : sProp 𝕄 :=
  iprop((bigSep Finset.univ fun k : Fin 15 => roundState ER (rd m) (kcell (c, k)) 0)
    ∗ (bigSep Finset.univ fun k : Fin 15 => iprop(atPos ER (kcell (c, k)) 0 ∅ 0 ∗ reached ER (kcell (c, k)) 0)) ∗ toks c)

omit [FloatOps F] in
theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_prod, bigSep_univ_eq_bigSepL [0, 1, 2] (by decide) (by decide)]
  unfold toks
  rw [← fin7, ← fin7, ← fin7]
  rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

theorem core_alloc (c : Dev nD) :
    iprop(Own c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ plain c) := by
  unfold G
  iintro ⟨Hos, Hus, Hst, Hat, Htok⟩
  ihave Hv := (sems_eq (F := F) c) $$ [Hos Hus]
  · isplitl [Hos] <;> iassumption
  icases Hv with ⟨HP, Hv⟩
  imod (show iprop((bigSep Finset.univ fun k : Fin 15 => semVal (kcell (c, k)) 0) ∗ bigSep Finset.univ fun k : Fin 15 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing -/

/-- What stays with device `c`: its positions, and the tokens of the duties it pays. -/
def pays (c : Dev nD) : sProp 𝕄 :=
  iprop(bigSep (Finset.Icc 1 7) (fun k => dutyTok ER (barCell (peer c k)) 0 (8 - k)) ∗ bigSep (Finset.Icc 1 7) (fun j => dutyTok ER (sendCell j c) 0 0)
    ∗ bigSep (Finset.Icc 1 7) (fun j => dutyTok ER (recvCell j (peer c j)) 0 0))
def poss (c : Dev nD) : sProp 𝕄 :=
  iprop(atPos ER (barCell c) 0 ∅ 0 ∗ bigSep (Finset.Icc 1 7) (fun j => atPos ER (sendCell j c) 0 ∅ 0) ∗ bigSep (Finset.Icc 1 7) (fun j => atPos ER (recvCell j c) 0 ∅ 0))
def G' (c : Dev nD) : sProp 𝕄 := iprop((∃ K, records m K) ∗ poss c ∗ pays c ∗ plain c)

/-- The device `k` places on, as a rearrangement of the devices. -/
def hop (k : ℕ) (hk : k ≤ 8) : Dev nD ≃ Dev nD where
  toFun c := peer c k
  invFun c := peer c (8 - k)
  left_inv c := peer_forth c hk
  right_inv c := peer_back c hk

omit [FloatOps F] in
theorem deal (Φ : ℕ → Dev nD → sProp 𝕄) :
    bigSep Finset.univ (fun c : Dev nD => bigSep (Finset.Icc 1 7) (fun j => Φ j c)) = bigSep Finset.univ fun c : Dev nD => bigSep (Finset.Icc 1 7) fun j => Φ j (peer c j) := by
  rw [bigSep_congr (s := Finset.univ) (fun (c : Dev nD) _ => (fin7 fun j => Φ j c).symm),
    bigSep_congr (s := Finset.univ) (fun (c : Dev nD) _ => (fin7 fun j => Φ j (peer c j)).symm)]
  refine (bigSep_univ_comm _).trans (Eq.trans ?_ (bigSep_univ_comm _).symm)
  exact bigSep_congr fun j _ => bigSep_univ_equiv (hop (j.val + 1) (by omega)) (Φ (j.val + 1))

omit [FloatOps F] in
theorem toks_pays : (bigSep Finset.univ fun c : Dev nD => (toks c : sProp 𝕄)) = bigSep Finset.univ fun c : Dev nD => pays c := by
  have hb : bigSep Finset.univ (fun c : Dev nD => bigSep (Finset.Icc 1 7) fun j => (dutyTok ER (barCell c) 0 j : sProp 𝕄))
      = bigSep Finset.univ fun c : Dev nD => bigSep (Finset.Icc 1 7) fun k => dutyTok ER (barCell (peer c k)) 0 (8 - k) := by
    rw [← deal fun k c => (dutyTok ER (barCell c) 0 (8 - k) : sProp 𝕄)]
    exact bigSep_congr fun c _ => (icc_flip fun j => (dutyTok ER (barCell c) 0 j : sProp 𝕄)).symm
  unfold toks pays
  rw [bigSep_sep', bigSep_sep', bigSep_sep', bigSep_sep', hb, deal fun j c => (dutyTok ER (recvCell j c) 0 0 : sProp 𝕄)]

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ plain c) : sProp 𝕄)
      ⊢ bigSep Finset.univ (G' m) := by
  rw [bigSep_sep', bigSep_sep', bigSep_sep', ← bigSep_univ_prod (fun ck : Dev nD × Fin 15 => iprop(∃ κ : ℕ, cellInv ER (rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄)), toks_pays,
    bigSep_congr (s := Finset.univ) (fun (c : Dev nD) _ => cells15 c fun g => (atPos ER g 0 ∅ 0 : sProp 𝕄))]
  iintro ⟨HI, ⟨Hat, #HR⟩, Htok, HP⟩
  ihave HK := (BI.bigSep_exists_pi Finset.univ (fun (ck : Dev nD × Fin 15) (κ : ℕ) => (cellInv ER (rd m) κ (kcell ck) : sProp 𝕄))) $$ HI
  icases HK with ⟨%K, #HI⟩
  iapply (with_persistent (R := records m K) (Φ := fun c => iprop(poss c ∗ pays c ∗ plain c)) fun c _ => show _ ⊢ G' m c from by
    unfold G'
    iintro ⟨#H, H1⟩
    isplitr; · iexists K; iexact H
    iexact H1)
  isplitr
  · unfold records; isplitl; · iexact HI
    iexact HR
  · iapply (Entails.of_eq (show iprop(bigSep Finset.univ poss ∗ bigSep Finset.univ pays ∗ bigSep Finset.univ plain)
        = (bigSep Finset.univ fun c : Dev nD => iprop(poss c ∗ pays c ∗ plain c) : sProp 𝕄) from by rw [bigSep_sep', bigSep_sep']))
    isplitl [Hat]; · unfold poss; iexact Hat
    isplitl [Htok] <;> iassumption

/-- Own and unscoped semaphores of every device at once. -/
theorem glob : (bigSep Finset.univ fun c => iprop(Own c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

abbrev O₀ (c : Dev nD) : CellTallies nD τ sig Unit := Ob c 7

theorem sum_hop (c : Dev nD) {k : ℕ} (hk : k ≤ 8) (a : ℕ) : (∑ d : Dev nD, if c = peer d k then a else 0) = a := by
  have h (d : Dev nD) : Iff (c = peer d k) (d = peer c (8 - k)) := ⟨fun h => by rw [h, peer_forth d hk], fun h => by rw [h, peer_back c hk]⟩
  simp only [h]
  rw [Finset.sum_ite_eq', if_pos (Finset.mem_univ _)]

theorem cell_dev {a b : Dev nD} {s s' : SemLoc sig} (h : (((a : Thread nD τ), s) : GSem nD τ sig) = ((b : Thread nD τ), s')) : a = b :=
  congrArg (fun g : GSem nD τ sig => g.1.1) h

theorem Os_bar (d c : Dev nD) : ∀ n, Os d n (barCell c) () = 0
  | 0 => rfl
  | n + 1 => by
      unfold Os
      rw [Pi.add_apply, Finsupp.add_apply, Os_bar d c n, tallyAt_apply, if_neg (fun h => by cases congrArg Prod.snd h.1)]

theorem sum_Ob_bar (c : Dev nD) : ∀ n, n ≤ 7 → (∑ d : Dev nD, Ob d n (barCell c) ()) = n
  | 0, _ => Finset.sum_eq_zero fun d _ => Os_bar d c 7
  | n + 1, h => by
      have e (d : Dev nD) : Ob d (n + 1) (barCell c) () = Ob d n (barCell c) () + if c = peer d (7 - n) then 1 else 0 := by
        rw [Ob, Pi.add_apply, Finsupp.add_apply, tallyAt_apply]
        congr 1
        exact if_congr ⟨fun h => cell_dev h.1, fun h => ⟨by rw [h], rfl⟩⟩ rfl rfl
      rw [Finset.sum_congr rfl fun d _ => e d, Finset.sum_add_distrib, sum_Ob_bar c n (by omega), sum_hop c (by omega)]

theorem sum_Os_recv (c : Dev nD) {j : ℕ} (h1 : 1 ≤ j) (h7 : j ≤ 7) : ∀ n, n ≤ 7 → (∑ d : Dev nD, Os d n (recvCell j c) ()) = if 8 - n ≤ j then N else 0
  | 0, _ => by rw [if_neg (by omega)]; rfl
  | n + 1, h => by
      have e (d : Dev nD) : Os d (n + 1) (recvCell j c) () = Os d n (recvCell j c) () + if c = peer d (7 - n) then (if 7 - n = j then N else 0) else 0 := by
        rw [Os, Pi.add_apply, Finsupp.add_apply, tallyAt_apply]
        congr 1
        by_cases hj : 7 - n = j
        · subst hj
          rw [if_pos rfl]
          exact if_congr ⟨fun h => cell_dev h.1, fun h => ⟨by rw [h], rfl⟩⟩ rfl rfl
        · rw [if_neg hj, ite_self, if_neg]
          rintro ⟨h', -⟩
          have := congrArg Fin.val (SemLoc.dma.inj (congrArg Prod.snd h'))
          rw [recvSem_val, recvSem_val] at this
          omega
      rw [Finset.sum_congr rfl fun d _ => e d, Finset.sum_add_distrib, sum_Os_recv c h1 h7 n (by omega), sum_hop c (by omega)]
      split_ifs <;> omega

theorem Ob_recv (d c : Dev nD) (j : ℕ) : ∀ n, Ob d n (recvCell j c) () = Os d 7 (recvCell j c) ()
  | 0 => rfl
  | n + 1 => by rw [Ob, Pi.add_apply, Finsupp.add_apply, Ob_recv d c j n, tallyAt_apply, if_neg (fun h => by cases congrArg Prod.snd h.1), Nat.add_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, sum_Ob_bar c 7 le_rfl]

theorem launch_recv (c : Dev nD) {j : ℕ} (h1 : 1 ≤ j) (h7 : j ≤ 7) :
    tallyOn (recvCell j c) (launchCredit (Pipeline.owing O₀) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => Ob_recv d c j 7, sum_Os_recv c h1 h7 7 le_rfl, if_pos (by omega)]

theorem recvLoc_injective : Function.Injective (fun i : Fin 7 => (SemLoc.dma (recvSem (i.val + 1)) : SemLoc sig)) := by decide

omit [FloatOps F] in
theorem creds (c : Dev nD) :
    (Pipeline.launchCred O₀ c : sProp 𝕄) ⊢ iprop(cred (tallyAt (barCell c) () 7) ∗ bigSep (Finset.Icc 1 7) fun j => cred (tallyAt (recvCell j c) () N)) := by
  unfold Pipeline.launchCred
  rw [bigSep_univ_at _ (SemLoc.reg barS), launch_bar]
  refine sep_mono_right ?_
  refine Entails.trans (show (_ : sProp 𝕄) ⊢ _ from bigSep_subset (t := Finset.univ.map ⟨_, recvLoc_injective⟩) (fun x hx => ?_)) (Entails.of_eq ?_)
  · obtain ⟨i, -, rfl⟩ := Finset.mem_map.mp hx
    exact Finset.mem_erase.mpr ⟨fun h => (by cases h), Finset.mem_univ _⟩
  · rw [bigSep_map, ← fin7]
    exact bigSep_congr fun i _ => congrArg cred (launch_recv c (by omega) (by omega))

end Cert.KernelProof

end
-- ==== Proof.Run.lean ====
/-
# The run of the whole program

The buffers cut into slots and blocks, the body's obligation from one device's run, and the launch: every
execution ends, the arguments unchanged, every counter at zero, and each block of the result at its contents.
-/
module

public import proofs.«01_k».proof.Proof.Launch
public import Idealize.ShloMosaic.Lib.Pipeline.CollectiveSegs

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers cut into slots -/

section Cut
variable {ℓ : Loc nD τ sig} {n : ℕ} (I : Fin n → Finset (Idx ℓ)) (key : Idx ℓ → ℕ)

omit [FloatOps F] in
theorem cut_disjoint (h : ∀ b i, i ∈ I b ↔ key i = b.val) : ∀ b b', b ≠ b' → Disjoint (I b) (I b') := fun b b' hb =>
  Finset.disjoint_left.mpr fun i hi hi' => hb (Fin.ext (((h b i).mp hi).symm.trans ((h b' i).mp hi')))
omit [FloatOps F] in
theorem cut_cover (h : ∀ b i, i ∈ I b ↔ key i = b.val) (hk : ∀ i, key i < n) : Finset.univ.biUnion I = Finset.univ := by
  ext i; simp only [Finset.mem_biUnion, Finset.mem_univ, true_and, iff_true]
  exact ⟨⟨key i, hk i⟩, (h _ i).mpr rfl⟩

omit [FloatOps F] in
theorem cut (h : ∀ b i, i ∈ I b ↔ key i = b.val) (hk : ∀ i, key i < n) (f : Buf (Elt F) ℓ) :
    (ℓ ↦{fullShare} f : sProp 𝕄) ⊢ bigSep Finset.univ fun b => iprop(∃ f, ℓ ↦[I b]{fullShare} f) := by
  rw [Ring.pointsTo_blocks I (cut_disjoint I key h) (cut_cover I key h hk) f]
  exact bigSep_mono fun b _ => show (ℓ ↦[I b]{fullShare} f : sProp 𝕄) ⊢ iprop(∃ f, ℓ ↦[I b]{fullShare} f) from by iintro H; iexists f; iexact H

theorem paste (h : ∀ b i, i ∈ I b ↔ key i = b.val) (hk : ∀ i, key i < n) :
    (bigSep Finset.univ fun b => iprop(∃ f, ℓ ↦[I b]{fullShare} f) : sProp 𝕄) ⊢ iprop(∃ f : Buf (Elt F) ℓ, ℓ ↦{fullShare} f) :=
  Ring.pointsTo_blocks_join_exists I (cut_disjoint I key h) (cut_cover I key h hk) fun _ => Classical.arbitrary _
end Cut

section Buffers
variable (c : Dev nD)

theorem st_key (b : Fin 6) (i : S6x1024x512.Idx) : Iff (i ∈ (stM b.val).view.set) ((i 0).val = b.val) := by
  rw [mem_st, Nat.mod_eq_of_lt b.isLt]
theorem os_key (b : Fin 2) (i : S2x1024x512.Idx) : Iff (i ∈ (osM b.val).view.set) ((i 0).val = b.val) := by
  rw [set_os, mem_two, Nat.mod_eq_of_lt b.isLt]
theorem sb_key (b : Fin 2) (i : S2x1024x512.Idx) : Iff (i ∈ (sbM b.val).view.set) ((i 0).val = b.val) := by
  rw [set_sb, mem_two, Nat.mod_eq_of_lt b.isLt]
theorem rb_key (b : Fin 8) (i : S8x1024x512.Idx) : Iff (i ∈ (rbM b.val).view.set) ((i 0).val = b.val) := by
  rw [mem_rb, Nat.mod_eq_of_lt b.isLt]
theorem o_key (b : Fin 8) (i : S8192x512.Idx) : Iff (i ∈ (oBlk c b.val).view.set) ((c.val + (8 - (i 0).val / 1024)) % 8 = b.val) := by
  rw [mem_o c b.isLt]
  have h1 : c.val < 8 := c.isLt
  have h2 : (i 0).val < 8192 := (i 0).isLt
  have h3 := b.isLt
  omega

/-- The staging buffer as its six slots; and back. -/
theorem st_cut : iprop(∃ f : Buf (Elt F) ((c : Thread nD τ).loc cc0_scratch1), ((c : Thread nD τ).loc cc0_scratch1) ↦{fullShare} f)
    ⊢ (iprop(anyAt c (stM 0) ∗ anyAt c (stM 1) ∗ anyAt c (stM 2) ∗ anyAt c (stM 3) ∗ anyAt c (stM 4) ∗ anyAt c (stM 5)) : sProp 𝕄) := by
  refine exists_elim fun f => ?_
  exact (cut (ℓ := (c : Thread nD τ).loc cc0_scratch1) (fun b : Fin 6 => (stM b.val).view.set) (fun i => (i 0).val) st_key (fun i => (i 0).isLt) f).trans (Entails.of_eq (bigSep_univ_eq_bigSepL [0, 1, 2, 3, 4, 5] (by decide) (by decide) _))
theorem st_paste : (iprop(anyAt c (stM 0) ∗ anyAt c (stM 1) ∗ anyAt c (stM 2) ∗ anyAt c (stM 3) ∗ anyAt c (stM 4) ∗ anyAt c (stM 5)) : sProp 𝕄)
    ⊢ iprop(∃ f : Buf (Elt F) ((c : Thread nD τ).loc cc0_scratch1), ((c : Thread nD τ).loc cc0_scratch1) ↦{fullShare} f) := by
  refine Entails.trans (Entails.of_eq ?_) (paste (ℓ := (c : Thread nD τ).loc cc0_scratch1) (fun b : Fin 6 => (stM b.val).view.set) (fun i => (i 0).val) st_key (fun i => (i 0).isLt))
  rw [bigSep_univ_eq_bigSepL [0, 1, 2, 3, 4, 5] (by decide) (by decide)]
  rfl

theorem os_cut : iprop(∃ f : Buf (Elt F) ((c : Thread nD τ).loc cc0_scratch2), ((c : Thread nD τ).loc cc0_scratch2) ↦{fullShare} f)
    ⊢ (iprop(anyAt c (osM 0) ∗ anyAt c (osM 1)) : sProp 𝕄) := by
  refine exists_elim fun f => ?_
  exact (cut (ℓ := (c : Thread nD τ).loc cc0_scratch2) (fun b : Fin 2 => (osM b.val).view.set) (fun i => (i 0).val) os_key (fun i => (i 0).isLt) f).trans (Entails.of_eq (bigSep_univ_eq_bigSepL [0, 1] (by decide) (by decide) _))
theorem os_paste : (iprop(anyAt c (osM 0) ∗ anyAt c (osM 1)) : sProp 𝕄)
    ⊢ iprop(∃ f : Buf (Elt F) ((c : Thread nD τ).loc cc0_scratch2), ((c : Thread nD τ).loc cc0_scratch2) ↦{fullShare} f) := by
  refine Entails.trans (Entails.of_eq ?_) (paste (ℓ := (c : Thread nD τ).loc cc0_scratch2) (fun b : Fin 2 => (osM b.val).view.set) (fun i => (i 0).val) os_key (fun i => (i 0).isLt))
  rw [bigSep_univ_eq_bigSepL [0, 1] (by decide) (by decide)]
  rfl

/-- The send buffer's slot 0 is the slot block 2 goes through. -/
theorem sb_two : (anyAt c (sbM 0) : sProp 𝕄) = anyAt c (sbM 2) := by
  have h : (sbM 0).view.set = (sbM 2).view.set :=
    (set_sb 0).trans ((Finset.ext fun i => (mem_two 0 i).trans (mem_two 2 i).symm).trans (set_sb 2).symm)
  show iprop(∃ f : Buf (Elt F) ((c : Thread nD τ).loc cc0_scratch3), ((c : Thread nD τ).loc cc0_scratch3) ↦[(sbM 0).view.set]{fullShare} f)
    = iprop(∃ f : Buf (Elt F) ((c : Thread nD τ).loc cc0_scratch3), ((c : Thread nD τ).loc cc0_scratch3) ↦[(sbM 2).view.set]{fullShare} f)
  rw [h]
theorem sb_cut : iprop(∃ f : Buf (Elt F) ((c : Thread nD τ).loc cc0_scratch3), ((c : Thread nD τ).loc cc0_scratch3) ↦{fullShare} f)
    ⊢ (iprop(anyAt c (sbM 2) ∗ anyAt c (sbM 1)) : sProp 𝕄) := by
  rw [← sb_two]
  refine exists_elim fun f => ?_
  exact (cut (ℓ := (c : Thread nD τ).loc cc0_scratch3) (fun b : Fin 2 => (sbM b.val).view.set) (fun i => (i 0).val) sb_key (fun i => (i 0).isLt) f).trans (Entails.of_eq (bigSep_univ_eq_bigSepL [0, 1] (by decide) (by decide) _))
theorem sb_paste : (iprop(anyAt c (sbM 0) ∗ anyAt c (sbM 1)) : sProp 𝕄)
    ⊢ iprop(∃ f : Buf (Elt F) ((c : Thread nD τ).loc cc0_scratch3), ((c : Thread nD τ).loc cc0_scratch3) ↦{fullShare} f) := by
  refine Entails.trans (Entails.of_eq ?_) (paste (ℓ := (c : Thread nD τ).loc cc0_scratch3) (fun b : Fin 2 => (sbM b.val).view.set) (fun i => (i 0).val) sb_key (fun i => (i 0).isLt))
  rw [bigSep_univ_eq_bigSepL [0, 1] (by decide) (by decide)]
  rfl

theorem rb_cut : iprop(∃ f : Buf (Elt F) ((c : Thread nD τ).loc cc0_scratch4), ((c : Thread nD τ).loc cc0_scratch4) ↦{fullShare} f)
    ⊢ (iprop(anyAt c (rbM 0) ∗ bigSep (Finset.Icc 1 7) fun j => anyAt c (rbM j)) : sProp 𝕄) := by
  rw [icc17]
  refine exists_elim fun f => ?_
  exact (cut (ℓ := (c : Thread nD τ).loc cc0_scratch4) (fun b : Fin 8 => (rbM b.val).view.set) (fun i => (i 0).val) rb_key (fun i => (i 0).isLt) f).trans (Entails.of_eq (bigSep_univ_eq_bigSepL [0, 1, 2, 3, 4, 5, 6, 7] (by decide) (by decide) _))
theorem rb_paste : (iprop(anyAt c (rbM 0) ∗ bigSep (Finset.Icc 1 7) fun j => anyAt c (rbM j)) : sProp 𝕄)
    ⊢ iprop(∃ f : Buf (Elt F) ((c : Thread nD τ).loc cc0_scratch4), ((c : Thread nD τ).loc cc0_scratch4) ↦{fullShare} f) := by
  refine Entails.trans (Entails.of_eq ?_) (paste (ℓ := (c : Thread nD τ).loc cc0_scratch4) (fun b : Fin 8 => (rbM b.val).view.set) (fun i => (i 0).val) rb_key (fun i => (i 0).isLt))
  rw [bigSep_univ_eq_bigSepL [0, 1, 2, 3, 4, 5, 6, 7] (by decide) (by decide), icc17]
  rfl

/-- The result as its eight blocks. -/
theorem o_cut (f : Buf (Elt F) ((c : Thread nD τ).loc main_v1)) : (((c : Thread nD τ).loc main_v1) ↦{fullShare} f : sProp 𝕄)
    ⊢ bigSep (Finset.Icc 0 7) fun i => anyAt c (oBlk c i) := by
  rw [icc_peel (by decide), icc17]
  exact (cut (ℓ := (c : Thread nD τ).loc main_v1) (fun b : Fin 8 => (oBlk c b.val).view.set) (fun i => (c.val + (8 - (i 0).val / 1024)) % 8) (o_key c)
    (fun i => Nat.mod_lt _ (by decide)) f).trans (Entails.of_eq (bigSep_univ_eq_bigSepL [0, 1, 2, 3, 4, 5, 6, 7] (by decide) (by decide) _))

end Buffers

/-! ## What a device starts with and ends with -/

/-- What the launch routes to the body: the cells' records, positions, tokens, credit, and the arrays. -/
def start (c : Dev nD) : sProp 𝕄 :=
  iprop(G' m c ∗ (cred (tallyAt (barCell c) () 7) ∗ bigSep (Finset.Icc 1 7) fun j => cred (tallyAt (recvCell j c) () N)) ∗ levAts L lv
    ∗ (((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1) ↦{fullShare} m ((c : Thread nD τ).loc main_v1)))
/-- What it ends with: the arguments as they were, the result block by block, the barrier's counter at zero. -/
def done (c : Dev nD) : sProp 𝕄 :=
  iprop(unscopedSems0 c ∗ inp m c ∗ bigSep (Finset.range 8) fun b => holds c (oBlk c b) (outv m c b))
def Φ₀ (c : Dev nD) : sProp 𝕄 := iprop(start m c ∗ Pipeline.scopedRest cfg0.spec c)
def Φ₁ (c : Dev nD) : sProp 𝕄 := iprop(done m c ∗ Own c ∗ Pipeline.scopedRest cfg0.spec c)

/-- The slots no duty hands over: slot 0 of the landing buffer, and the two counters beside it. -/
def side (c : Dev nD) : sProp 𝕄 := iprop(anyAt c (rbM 0) ∗ semVal (sendCell 0 c) 0 ∗ semVal (recvCell 0 c) 0)

theorem pre_of (c : Dev nD) : iprop(Φ₀ m c ∗ Owes c (Ob c 7)) ⊢ (iprop(∃ K, Pre m K c ∗ side c) : sProp 𝕄) := by
  unfold Φ₀ start G' poss pays plain
  rw [scopedRest0_eq]
  iintro ⟨⟨⟨⟨⟨%K, Hrec⟩, ⟨HaB, HaS, HaR⟩, ⟨HtB, HtS, HtR⟩, ⟨⟨S0, S1, S2, S3, S4, S5⟩, ⟨U0, U1⟩, HS0, HR0⟩⟩, ⟨HcB, HcR⟩, Hlev, A0, A1, V1⟩, B0, B1, B2, B3, B4⟩, Ho⟩
  ihave B1 := (st_cut (F := F) c) $$ B1
  icases B1 with ⟨T0, T1, T2, T3, T4, T5⟩
  ihave B2 := (os_cut (F := F) c) $$ B2
  icases B2 with ⟨O0, O1⟩
  ihave B3 := (sb_cut (F := F) c) $$ B3
  icases B3 with ⟨P2, P1⟩
  ihave B4 := (rb_cut (F := F) c) $$ B4
  icases B4 with ⟨R0, RR⟩
  ihave RR := (Entails.of_eq (icc_flip fun j => (anyAt c (rbM j) : sProp 𝕄)).symm) $$ RR
  ihave V1 := (o_cut (F := F) c _) $$ V1
  iexists K
  unfold Pre side SigRes DrainRes inp free ofree
  simp only [bigSep_sep']
  isplitr [R0 HS0 HR0]
  · isplitl [Hrec]; · iexact Hrec
    isplitl [Hlev]; · iexact Hlev
    isplitl [Ho]; · iexact Ho
    isplitl [HtB RR HcB HaB]
    · isplitl [HtB RR]
      · isplitl [HtB] <;> iassumption
      isplitl [HcB] <;> iassumption
    isplitl [A0 A1 T0 T1 T2 T3 T4 T5 S0 S1 S2 S3 S4 S5]
    · isplitl [A0 A1]
      · iexists fullShare
        isplitl [A0] <;> iassumption
      isplitl [T0 S0]; · isplitl [T0] <;> iassumption
      isplitl [T1 S1]; · isplitl [T1] <;> iassumption
      isplitl [T2 S2]; · isplitl [T2] <;> iassumption
      isplitl [T3 S3]; · isplitl [T3] <;> iassumption
      isplitl [T4 S4]; · isplitl [T4] <;> iassumption
      isplitl [T5] <;> iassumption
    isplitl [B0]; · iexact B0
    isplitl [O0 O1 U0 U1 V1]
    · isplitl [O0 U0]; · isplitl [O0] <;> iassumption
      isplitl [O1 U1]; · isplitl [O1] <;> iassumption
      iexact V1
    isplitl [P1 P2 HtS HtR HaS]
    · isplitl [P1]; · iexact P1
      isplitl [P2]; · iexact P2
      isplitl [HtS]; · iexact HtS
      isplitl [HtR] <;> iassumption
    isplitl [HcR] <;> iassumption
  · isplitl [R0]; · iexact R0
    isplitl [HS0] <;> iassumption

theorem post_to (c : Dev nD) : iprop(Post m c ∗ side c) ⊢ (iprop(Φ₁ m c ∗ Owes c 0) : sProp 𝕄) := by
  unfold Post side Φ₁ done free ofree
  rw [scopedRest0_eq, own_eq, unscoped_eq]
  unfold plain
  simp only [bigSep_sep']
  iintro ⟨⟨Ho, HB, ⟨Hin, ⟨T0, S0⟩, ⟨T1, S1⟩, ⟨T2, S2⟩, ⟨T3, S3⟩, ⟨T4, S4⟩, T5, S5⟩, B0, ⟨⟨O0, U0⟩, ⟨O1, U1⟩, HV⟩, ⟨P0, P1, HSS⟩, RR, HRS⟩, R0, HS0, HR0⟩
  isplitr [Ho]
  · isplitl [HB Hin HV]
    · isplitl [HB]; · iexact HB
      isplitl [Hin] <;> iassumption
    isplitl [S0 S1 S2 S3 S4 S5 U0 U1 HS0 HR0 HSS HRS]
    · isplitl [S0 S1 S2 S3 S4 S5 U0 U1 HS0 HR0]
      · isplitl [S0 S1 S2 S3 S4 S5]
        · isplitl [S0]; · iexact S0
          isplitl [S1]; · iexact S1
          isplitl [S2]; · iexact S2
          isplitl [S3]; · iexact S3
          isplitl [S4] <;> iassumption
        isplitl [U0 U1]
        · isplitl [U0] <;> iassumption
        isplitl [HS0] <;> iassumption
      isplitl [HSS] <;> iassumption
    isplitl [B0]; · iexact B0
    isplitl [T0 T1 T2 T3 T4 T5]
    · iapply (st_paste (F := F) c)
      isplitl [T0]; · iexact T0
      isplitl [T1]; · iexact T1
      isplitl [T2]; · iexact T2
      isplitl [T3]; · iexact T3
      isplitl [T4] <;> iassumption
    isplitl [O0 O1]
    · iapply (os_paste (F := F) c)
      isplitl [O0] <;> iassumption
    isplitl [P0 P1]
    · iapply (sb_paste (F := F) c)
      isplitl [P0] <;> iassumption
    iapply (rb_paste (F := F) c)
    isplitl [R0] <;> iassumption
  · iexact Ho

/-! ## The body's obligation -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_run (c : Dev nD) (Q : PUnit → sProp 𝕄) :
    iprop(Φ₀ m c ∗ Owes c (Ob c 7)) ⊢ iprop((iprop(Φ₁ m c ∗ Owes c 0) -∗ Q ⟨⟩) -∗ WP c body Q) := by
  refine (pre_of m c).trans ?_
  iintro ⟨%K, HP, HS⟩ HQ
  iapply (wp_body m K c Q) $$ HP
  iintro HP
  iapply HQ
  iapply (post_to m c)
  isplitl [HP] <;> iassumption

set_option maxRecDepth 8000 in
theorem body_obligation (c : Dev nD) : BodyObligation (dats (F := F) m 0 c) (defs₀ (F := F)) 𝒱₀ () Set.univ := fun t => by
  rw [fin_N0 t]
  have h0 (Φ : Fin cfg0.W → sProp 𝕄) : bigSep Finset.univ Φ = (iprop(emp) : sProp 𝕄) := bigSep_empty
  rw [h0, h0]
  rw [show defs₀ (F := F) .tc cfg0.body (cfg0.bodyArgs t0_0 (cfg0.slots t0_0)) = body from body_eq t0_0,
    show (dats m 0 c).Φ t0_0.castSucc = Φ₀ m c from rfl, show (dats m 0 c).Φ t0_0.succ = Φ₁ m c from rfl]
  unfold Dat.owesAt Pipeline.owesWithin
  iintro ⟨HP, ⟨%W, -, Ho⟩, -⟩
  iapply (body_run m c) $$ [HP Ho]
  · isplitl [HP]; · iexact HP
    unfold Owes; iexists W; iexact Ho
  · unfold Owes
    iintro ⟨HP, ⟨%W', Ho⟩⟩
    isplitl [HP]; · iexact HP
    isplitl [Ho]
    · iexists W'
      isplitr; · ipureintro; exact fun _ _ => Or.inl trivial
      iexact Ho
    · iempintro

/-! ## The launch's side conditions -/

omit [FloatOps F] in
theorem rest_eq (c : Dev nD) (V : (b : Ref sig .tc) → Buf (Elt F) ((c : Thread nD τ).loc b)) :
    (Pipeline.unscopedRestP (Ix := Unit) (Name := ℕ) (U := UU) (Lvl := ℕ) Pipeline.Prefetch.none cfg0.spec c V : sProp 𝕄)
      = iprop((((c : Thread nD τ).loc main_arg0) ↦{fullShare} V main_arg0) ∗ (((c : Thread nD τ).loc main_arg1) ↦{fullShare} V main_arg1) ∗ (((c : Thread nD τ).loc main_v1) ↦{fullShare} V main_v1)) :=
  Pipeline.unscopedRestP_eq_of_list (τ := τ) (sig := sig) cfg0.spec c Pipeline.Prefetch.none V [main_arg0, main_arg1, main_v1] (by decide) (by decide)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨HV, Hlev, Hcr, -, HG⟩
  ihave Hc := (creds (F := F) c) $$ Hcr
  imodintro
  unfold start
  isplitl
  · isplitl [HG]; · iexact HG
    isplitl [Hc]; · iexact Hc
    isplitl [Hlev] <;> iassumption
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem last_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = Φ₁ m c from rfl]
  unfold Φ₁
  exact .refl

theorem waits (c : Dev nD) : (levAts L lv : sProp 𝕄) ⊢ Pipeline.cellsWaits cfgs (dats m) () 0 c :=
  Pipeline.cellsWaits_intro cfgs (dats m) () 0 c fun w s t => w.elim0

/-! ## The run -/

/-- What a final memory holds of device `c`: the arguments as they were, each block of the result at its
    contents, the barrier's counter at zero. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ (∀ b < 8, (oBlk c b).view.read (Elt F) (s.mem ((c : Thread nD τ).loc main_v1)) = outv m c b)
    ∧ ∀ sm : SemLoc sig, sm.isScoped .tc = false → s.sem ((c.tc : Thread nD τ), sm) = 0

theorem blocks_read (c : Dev nD) (s' : Phys nD τ sig (Elt F)) : ∀ n,
    iprop((bigSep (Finset.range n) fun b => holds c (oBlk c b) (outv m c b)) ∗ SI s')
      ⊢ (iprop(⌜∀ b < n, (oBlk c b).view.read (Elt F) (s'.mem.mem ((c : Thread nD τ).loc main_v1)) = outv m c b⌝ ∗ SI s') : sProp 𝕄)
  | 0 => by
      iintro ⟨-, HSI⟩
      isplitr; · ipureintro; exact fun b hb => absurd hb (Nat.not_lt_zero b)
      iexact HSI
  | n + 1 => by
      rw [range_grow]
      unfold holds
      iintro ⟨⟨⟨%f, H, %hf⟩, HR⟩, HSI⟩
      ihave ⟨%hr, HSI⟩ := (blocks_read c s' n) $$ [HR HSI]
      · unfold holds; isplitl [HR] <;> iassumption
      ihave %hm := (SI_pointsTo_agree) $$ [HSI H]
      · isplitl [HSI] <;> iassumption
      isplitr
      · ipureintro
        intro b hb
        rcases Nat.lt_succ_iff_lt_or_eq.mp hb with hb | rfl
        · exact hr b hb
        · rw [← hf]
          exact View.read_congr hm
      iexact HSI

theorem final_read (c : Dev nD) (s' : Phys nD τ sig (Elt F)) :
    iprop(done m c ∗ emp ∗ SI s') ⊢ |={Set.univ}=> (iprop(⌜Final m c s'.mem⌝ ∗ SI s') : sProp 𝕄) := by
  unfold done inp
  iintro ⟨⟨Hu, ⟨%q, HA, HB⟩, HV⟩, -, HSI⟩
  imod (Pipeline.unscopedSems0_read (X := unscopedSems0 c) (c := c) fupd_intro s') $$ [Hu HSI] with ⟨%hs, HSI⟩
  · isplitl [Hu] <;> iassumption
  ihave ⟨%hv, HSI⟩ := (blocks_read m c s' 8) $$ [HV HSI]
  · isplitl [HV] <;> iassumption
  ihave %ha := (SI_pointsTo_agree) $$ [HSI HA]
  · isplitl [HSI] <;> iassumption
  ihave %hb := (SI_pointsTo_agree) $$ [HSI HB]
  · isplitl [HSI] <;> iassumption
  imodintro
  isplitr
  · ipureintro
    exact ⟨⟨funext fun i => ha i (Finset.mem_univ i), funext fun i => hb i (Finset.mem_univ i)⟩, hv, hs⟩
  iexact HSI

set_option maxRecDepth 8000 in
/-- From any memory with zero counters, for any float values: every weakly fair execution ends, and every
    final state has the arguments unchanged, each block of the result at its contents and every counter at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (show BI.own (((Emb.inl : Emb UB (UB × Counters)).trans embR) (initOf allCells allToks)) ⊢ (|==> bigSep Finset.univ (G m) : sProp 𝕄) from fund m) $$ HX with HG
      imodintro
      isplitl [HP] <;> iassumption)
    (hglob := glob m)
    (hA := fun _ w => w.elim0) (hpf := fun _ k => k.elim0)
    (X := start m) (Y := done m) (Z := fun _ => iprop(emp))
    (hX := start_intro m ρ) (hin := first_intro m) (hout := last_exit m)
    (QY := Final m) (hY := final_read m)
    (hQ := fun _ h hs => ⟨fun c => (h c).2.2, sem_eq_zero hs fun c => (h c).2.2.2.2⟩)

end Cert.KernelProof

end
-- ==== Proof.Frames.lean ====
/-
# The frames

Every execution of the kernel, over words and over the extended reals, and of the reference ends with the
arguments unchanged and every counter at zero.
-/
module

public import proofs.«01_k».proof.Defs
public import proofs.«01_k».proof.Proof.Gen.Kernel
public import proofs.«01_k».proof.Proof.Run
public import proofs.«01_k».proof.Proof.Gen.ReferenceIdeal.Run
public import Idealize.ShloMosaic.Lib.Quiescent

@[expose] public section

noncomputable section

namespace Cert.KernelProof

open Idealize.ShloMosaic Idealize.SL.Sem

theorem frame_kernel : Cert.quiescent_Kernel := fun m ρ _ =>
  (θ_run Cert.KernelIdeal.defs _ _).mono (fun _ h => ⟨fun c => (h.1 c).1, h.2⟩) (run_main (F := Bits) m ρ)

theorem frame_ideal : Cert.quiescent_KernelIdeal := fun m ρ _ =>
  (θ_run Cert.KernelIdeal.defs _ _).mono (fun _ h => ⟨fun c => (h.1 c).1, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

end Cert.KernelProof

end
-- ==== Proof.Value.lean ====
/-
# What the result holds over the extended reals

Over the extended reals roundings change nothing, so each device's running sum over eight chunks is one dot
product of 8192 terms, and each block of its result is the activation of the whole product at its place.
-/
module

public import proofs.«01_k».proof.Proof.Geom
public import proofs.«01_k».proof.Proof.Gen.ReferenceIdeal.Run
public import Idealize.ShloMosaic.Lib.Pointwise
public import Idealize.ShloMosaic.Lib.LayoutAt

@[expose] public section

noncomputable section

namespace Cert.KernelProof

open Cert.KernelIdeal Cert.KernelIdeal.Gen
open Idealize.ShloMosaic Idealize.ShloMosaic.TcCoe
open Idealize.SL Idealize.SL.Sem

/-- The activation `y / 2 · (1 + tanh (c · (y + 0.044715 · y³)))`, its constants the program's. -/
def act (y : EReal) : EReal :=
  Ideal.ofBits .f32 0x3F000000#32 * y
    * (1 + Ideal.tanh (Ideal.ofBits .f32 0x3F4C422A#32 * (y + Ideal.ofBits .f32 0x3D372713#32 * (y * y * y))))

/-! ## The kernel's sums -/

theorem dotc_apply (x : FVec Ideal S1024x1024 .bf16) (a : FVec Ideal S1024x512 .f32) (r : Fin 1024) (q : Fin 512) :
    dotc x a (ix2 r q) = ∑ k : Fin 1024, x (ix2 r k) * a (ix2 k q) := by
  pointwise [dotc]

theorem act_apply (v : FVec Ideal S1024x512 .f32) (r : Fin 1024) (q : Fin 512) :
    (k0_pay60 v : FVec Ideal S1024x512 .f32) (ix2 r q) = act (v (ix2 r q)) := by
  pointwise [k0_pay60, act]
  simp only [mul_assoc]

theorem own_apply (v : FVec Ideal S1024x512 .f32) (r : Fin 1024) (q : Fin 512) :
    (down (k0_pay27 v) : FVec Ideal S1024x512 .f32) (ix2 r q) = act (v (ix2 r q)) := by
  show (down (upc (k0_pay60 v : FVec Ideal S1024x512 .f32))) (ix2 r q) = _
  rw [down_upc, act_apply]

theorem sent_apply (v : FVec Ideal S1024x512 .f32) (r : Fin 1024) (q : Fin 512) :
    (down (sendVal v) : FVec Ideal S1024x512 .bf16) (ix2 r q) = act (v (ix2 r q)) := by
  show (down (upc (truncf .bf16 (k0_pay60 v) bitsLt_bf16_f32 : FVec Ideal S1024x512 .bf16))) (ix2 r q) = _
  rw [down_upc]
  exact act_apply v r q

variable (m : (ℓ : Loc nD τ sig) → Buf (Elt Ideal) ℓ)

theorem xbc_apply (d : Dev nD) {c : ℕ} (hc : c < 8) (r k : Fin 1024) :
    xbc m d c (ix2 r k) = xAt m d (ix2 r ⟨c * 1024 + k.val, by omega⟩) := by
  show xAt m d ((rXc c).emb (ix2 r k)) = _
  congr 1
  refine funext fun a => Fin.ext ?_
  have : c % 8 = c := Nat.mod_eq_of_lt hc
  fin_cases a <;> simp [this] <;> omega

theorem wbl_apply (d : Dev nD) {j c : ℕ} (hj : j < 8) (hc : c < 8) (k : Fin 1024) (q : Fin 512) :
    wbl m d j c (ix2 k q) = wAt m d (ix2 ⟨c * 1024 + k.val, by omega⟩ ⟨(peer d j).val * 512 + q.val, by
      have := (peer d j).isLt; have h8 : nD = 8 := rfl; omega⟩) := by
  show wAt m d ((Rect.unit (s := S8192x4096) (wOff d j c) S1024x512.size (inb_w d j c)).emb (ix2 k q)) = _
  congr 1
  refine funext fun a => Fin.ext ?_
  have h : wOff d j c = _ := wOff_eq d hj hc
  fin_cases a <;> simp [h, peer] <;> omega

/-- The product of chunk `c` at an entry. -/
def part (d : Dev nD) (j : ℕ) (r : Fin 1024) (q : Fin 512) (c : ℕ) : EReal :=
  dotc (xbc m d c) (wbl m d j c) (ix2 r q)

theorem accv_apply (d : Dev nD) (j : ℕ) (r : Fin 1024) (q : Fin 512) (n : ℕ) :
    accv m d j (n + 1) (ix2 r q) = ∑ c ∈ Finset.range (n + 1), part m d j r q c := by
  induction n with
  | zero => simp [accv, part]
  | succ n ih =>
    rw [Finset.sum_range_succ, ← ih]
    rfl

/-- Device `d`'s sum of phase `j` at an entry: the whole dot product. -/
theorem accv_full (d : Dev nD) {j : ℕ} (hj : j < 8) (r : Fin 1024) (q : Fin 512) :
    accv m d j 8 (ix2 r q) = ∑ l : Fin 8192, xAt m d (ix2 r l) * wAt m d (ix2 l ⟨(peer d j).val * 512 + q.val, by
      have := (peer d j).isLt; have h8 : nD = 8 := rfl; omega⟩) := by
  rw [show (8 : ℕ) = 7 + 1 from rfl, accv_apply, Finset.sum_range, Fin.sum_univ_tiles 8 1024 rfl]
  refine Finset.sum_congr rfl fun c _ => ?_
  rw [part, dotc_apply]
  refine Finset.sum_congr rfl fun k _ => ?_
  rw [xbc_apply m d c.isLt, wbl_apply m d hj c.isLt]

/-- Block `b` of device `c`'s result at an entry: the activation of the dot product of the rows of the
    device `b` places back with device `c`'s columns of that device's copy of `w`. -/
theorem outv_apply (c : Dev nD) {b : ℕ} (hb : b < 8) (r : Fin 1024) (q : Fin 512) :
    outv m c b (ix2 r q) = act (∑ l : Fin 8192, xAt m (peer c (8 - b)) (ix2 r l)
      * wAt m (peer c (8 - b)) (ix2 l ⟨c.val * 512 + q.val, by have := c.isLt; have h8 : nD = 8 := rfl; omega⟩)) := by
  match b, hb with
  | 0, _ =>
    show (down (k0_pay27 (accv m c 0 8)) : FVec Ideal S1024x512 .f32) (ix2 r q) = _
    have h0 : peer c 0 = c := Fin.ext (Nat.mod_eq_of_lt c.isLt)
    simp only [own_apply, accv_full m c (show 0 < 8 by decide), h0, Nat.sub_zero, peer_eight]
  | b + 1, hb =>
    show (down (sendVal (accv m (peer c (8 - (b + 1))) (b + 1) 8)) : FVec Ideal S1024x512 .bf16) (ix2 r q) = _
    simp only [sent_apply, accv_full m _ hb, peer_back c hb.le]

/-! ## The reference, and the two together -/

/-- The reference's whole result. -/
def refv (X : FVec Ideal Cert.ReferenceIdeal.S8192x8192 .f32) (W : FVec Ideal Cert.ReferenceIdeal.S8192x4096 .f32) :
    FVec Ideal Cert.ReferenceIdeal.S8192x4096 .f32 := fun i =>
  act (∑ l : Fin 8192, X (ix2 (i 0) l) * W (ix2 l (i 1)))

/-- The reference's run, its result read entry by entry. -/
theorem run_ref (m' : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m', fun _ => 0, ρ⟩ fun r =>
      ∀ c : Dev Cert.ReferenceIdeal.nD,
        (r.2.mem ((c.tc : Thread Cert.ReferenceIdeal.nD Cert.ReferenceIdeal.τ).loc Cert.ReferenceIdeal.main_v13)
          = refv (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1) := by
  refine (θ_run Cert.ReferenceIdeal.defs _ _).mono (fun r h c => ⟨(h c).1.trans ?_, (h c).2⟩) (Cert.ReferenceIdeal.Value.run m' ρ)
  generalize (m' ((c.tc : Thread Cert.ReferenceIdeal.nD Cert.ReferenceIdeal.τ).loc Cert.ReferenceIdeal.main_arg0)) = X
  generalize (m' ((c.tc : Thread Cert.ReferenceIdeal.nD Cert.ReferenceIdeal.τ).loc Cert.ReferenceIdeal.main_arg1)) = W
  funext i
  obtain ⟨a, b, rfl⟩ : ∃ a b, i = ix2 a b := ⟨i 0, i 1, eq_ix2 i⟩
  pointwise [refv, act]

end Cert.KernelProof

end
-- ==== Proof.Algebraic.lean ====
/-
# The kernel and the reference, over the extended reals

When the devices hold the row blocks of one `x` and each a copy of one `w`, every device's result is its block
of columns of the reference's result.
-/
module

public import proofs.«01_k».proof.Defs
public import proofs.«01_k».proof.Proof.Run
public import proofs.«01_k».proof.Proof.Value

@[expose] public section

noncomputable section

namespace Cert.KernelProof

open Cert.KernelIdeal Cert.KernelIdeal.Gen
open Idealize.ShloMosaic Idealize.ShloMosaic.TcCoe
open Idealize.SL Idealize.SL.Sem

variable (m : (ℓ : Loc nD τ sig) → Buf (Elt Ideal) ℓ)

/-- An entry of the result is an entry of the block its row lies in. -/
theorem entry_of_blocks {F : FTy → Type} (c : Dev nD) (f : FVec F S8192x512 .f32) (a : Fin 8192) (q : Fin 512) :
    f (ix2 a q) = (oBlk c ((c.val + 8 - a.val / 1024) % 8)).view.read (Elt F) f (ix2 ⟨a.val % 1024, by omega⟩ q) := by
  have hc := c.isLt
  have h8 : nD = 8 := rfl
  have h := oOff_eq c (b := (c.val + 8 - a.val / 1024) % 8) (Nat.mod_lt _ (by decide))
  show f (ix2 a q) = f ((Rect.unit (s := S8192x512) (oOff c ((c.val + 8 - a.val / 1024) % 8)) S1024x512.size (inb_o c _)).emb (ix2 _ q))
  congr 1
  refine funext fun x => Fin.ext ?_
  fin_cases x <;> simp [h] <;> omega

/-- Device `c`'s result is its block of columns of the reference's result. -/
theorem result_block (X : FVec Ideal Cert.ReferenceIdeal.S8192x8192 .f32) (W : FVec Ideal Cert.ReferenceIdeal.S8192x4096 .f32)
    (hX : ∀ d : Dev nD, xAt m d = Layout.block ⟨2, ![1024, 8192]⟩ ⟨2, ![8192, 8192]⟩ 0 8 d X)
    (hW : ∀ d : Dev nD, wAt m d = W) (c : Dev nD) (f : FVec Ideal S8192x512 .f32)
    (hf : ∀ b < 8, (oBlk c b).view.read (Elt Ideal) f = outv m c b) :
    f = Layout.block ⟨2, ![8192, 512]⟩ ⟨2, ![8192, 4096]⟩ 1 8 c (refv X W) := by
  funext i
  obtain ⟨a, q, rfl⟩ : ∃ a q, i = ix2 a q := ⟨i 0, i 1, eq_ix2 i⟩
  have hb : (c.val + 8 - a.val / 1024) % 8 < 8 := Nat.mod_lt _ (by decide)
  have hc := c.isLt
  have h8 : nD = 8 := rfl
  rw [entry_of_blocks c f a q, hf _ hb, outv_apply m c hb, Layout.block_apply, refv]
  refine congrArg act (Finset.sum_congr rfl fun l _ => ?_)
  rw [hX, hW, Layout.block_apply]
  refine congrArg₂ (· * ·) (congrArg X ?_) (congrArg W ?_)
  · refine funext fun x => Fin.ext ?_
    fin_cases x
    · simp [Layout.Tiles.idx, peer]; omega
    · simp [Layout.Tiles.idx]
  · refine funext fun x => Fin.ext ?_
    fin_cases x <;> simp [Layout.Tiles.idx]

theorem algebraic : Cert.algebraic_KernelIdeal_ReferenceIdeal := fun m g m' g' _ hagree =>
  ⟨refv _ _,
    (θ_run Cert.KernelIdeal.defs _ _).mono (fun _ h c =>
      ⟨result_block m _ _ (fun d => (hagree d).1) (fun d => (hagree d).2) c _ (h.1 c).2.1, (h.1 c).1⟩) (run_main (F := Ideal) m g),
    (θ_run Cert.ReferenceIdeal.defs _ _).mono (fun _ h => h 0) (run_ref m' g')⟩

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelProof.frame_kernel, Cert.KernelProof.frame_ideal, Cert.KernelProof.frame_reference, trivial,
  Cert.KernelProof.algebraic⟩

end Cert.Proof

end
